-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 128, 256]⟩ ⟨3, ![16, 128, 256]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![32, 256]⟩ ⟨2, ![256, 256]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x128 : Shape := ⟨2, ![256, 128]⟩
abbrev S128x16 : Shape := ⟨2, ![128, 16]⟩
abbrev S256x1 : Shape := ⟨2, ![256, 1]⟩
abbrev S2x128x256 : Shape := ⟨3, ![2, 128, 256]⟩
abbrev S32x256 : Shape := ⟨2, ![32, 256]⟩
abbrev S256x256 : Shape := ⟨2, ![256, 256]⟩
abbrev S8x32x256 : Shape := ⟨3, ![8, 32, 256]⟩
abbrev S8 : Shape := ⟨1, ![8]⟩
abbrev S256x16 : Shape := ⟨2, ![256, 16]⟩
abbrev S256 : Shape := ⟨1, ![256]⟩
abbrev S1x128x256 : Shape := ⟨3, ![1, 128, 256]⟩
abbrev S128x256 : Shape := ⟨2, ![128, 256]⟩
abbrev S_ : Shape := ⟨0, ![]⟩
abbrev S1 : Shape := ⟨1, ![1]⟩
abbrev S1x32x256 : Shape := ⟨3, ![1, 32, 256]⟩

abbrev nBuf : Space → Nat
  | .hbm => 5
  | .vmem => 7
  | .smem => 0
  | _ => 0

abbrev bufTy : (tb : Table) → Fin (tcTables nBuf tb) → BufTy
  | .hbm, ⟨0, _⟩ => ⟨S256x128, .bf16⟩
  | .hbm, ⟨1, _⟩ => ⟨S128x16, .bf16⟩
  | .hbm, ⟨2, _⟩ => ⟨S256x1, .i32⟩
  | .hbm, ⟨3, _⟩ => ⟨S2x128x256, .bf16⟩
  | .hbm, ⟨4, _⟩ => ⟨S32x256, .f32⟩
  | .local _ .vmem, ⟨0, _⟩ => ⟨S256x128, .bf16⟩
  | .local _ .vmem, ⟨1, _⟩ => ⟨S128x16, .bf16⟩
  | .local _ .vmem, ⟨2, _⟩ => ⟨S256x1, .i32⟩
  | .local _ .vmem, ⟨3, _⟩ => ⟨S2x128x256, .bf16⟩
  | .local _ .vmem, ⟨4, _⟩ => ⟨S32x256, .f32⟩
  | .local _ .vmem, ⟨5, _⟩ => ⟨S256x256, .bf16⟩
  | .local _ .vmem, ⟨6, _⟩ => ⟨S8x32x256, .bf16⟩
  | _, _ => ⟨S256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 2 → Bool
  | ⟨0, _⟩ => false
  | ⟨1, _⟩ => true
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 2 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_19 : BitVec 32 := 1#32
  let v57 : BitVec 32 := Scalar.addi v2 c1_i32_19
  let c8_i32_20 : BitVec 32 := 8#32
  let c0_i32_21 : BitVec 32 := 0#32
  let v58 : BitVec 1 := Scalar.cmpi .eq c8_i32_20 c0_i32_21
  let c1_i32_22 : BitVec 32 := 1#32
  let v59 : BitVec 32 := Scalar.select v58 c1_i32_22 c8_i32_20
  let v60 : BitVec 32 := Scalar.remsi v57 v59
  let c0_i32_24 : BitVec 32 := 0#32
  let v62 : BitVec 1 := Scalar.cmpi .slt v60 c0_i32_24
  let c0_i32_25 : BitVec 32 := 0#32
  let v63 : BitVec 1 := Scalar.cmpi .slt v59 c0_i32_25
  let v64 : BitVec 1 := Scalar.xori v62 v63
  let c0_i32_23 : BitVec 32 := 0#32
  let v61 : BitVec 1 := Scalar.cmpi .ne v60 c0_i32_23
  let v65 : BitVec 1 := Scalar.andi v64 v61
  let v66 : BitVec 32 := Scalar.addi v60 v59
  let v67 : BitVec 32 := Scalar.select v65 v66 v60
  let c1_i32_27 : BitVec 32 := 1#32
  let v68 : BitVec 32 := Scalar.muli v67 c1_i32_27
  let v69 : BitVec 32 := Scalar.addi c0_i32_28 v68
  v69.toNat
def k0_dev2 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_29 : BitVec 32 := 2#32
  let v70 : BitVec 32 := Scalar.addi v2 c2_i32_29
  let c8_i32_30 : BitVec 32 := 8#32
  let c0_i32_31 : BitVec 32 := 0#32
  let v71 : BitVec 1 := Scalar.cmpi .eq c8_i32_30 c0_i32_31
  let c1_i32_32 : BitVec 32 := 1#32
  let v72 : BitVec 32 := Scalar.select v71 c1_i32_32 c8_i32_30
  let v73 : BitVec 32 := Scalar.remsi v70 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let c1_i32_37 : BitVec 32 := 1#32
  let v81 : BitVec 32 := Scalar.muli v80 c1_i32_37
  let v82 : BitVec 32 := Scalar.addi c0_i32_38 v81
  v82.toNat
def k0_dev3 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v83 : BitVec 32 := Scalar.addi v2 c3_i32
  let c8_i32_39 : BitVec 32 := 8#32
  let c0_i32_40 : BitVec 32 := 0#32
  let v84 : BitVec 1 := Scalar.cmpi .eq c8_i32_39 c0_i32_40
  let c1_i32_41 : BitVec 32 := 1#32
  let v85 : BitVec 32 := Scalar.select v84 c1_i32_41 c8_i32_39
  let v86 : BitVec 32 := Scalar.remsi v83 v85
  let c0_i32_43 : BitVec 32 := 0#32
  let v88 : BitVec 1 := Scalar.cmpi .slt v86 c0_i32_43
  let c0_i32_44 : BitVec 32 := 0#32
  let v89 : BitVec 1 := Scalar.cmpi .slt v85 c0_i32_44
  let v90 : BitVec 1 := Scalar.xori v88 v89
  let c0_i32_42 : BitVec 32 := 0#32
  let v87 : BitVec 1 := Scalar.cmpi .ne v86 c0_i32_42
  let v91 : BitVec 1 := Scalar.andi v90 v87
  let v92 : BitVec 32 := Scalar.addi v86 v85
  let v93 : BitVec 32 := Scalar.select v91 v92 v86
  let c1_i32_46 : BitVec 32 := 1#32
  let v94 : BitVec 32 := Scalar.muli v93 c1_i32_46
  let v95 : BitVec 32 := Scalar.addi c0_i32_47 v94
  v95.toNat
def k0_dev4 (d0 : Dev nD) : Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v96 : BitVec 32 := Scalar.addi v2 c4_i32
  let c8_i32_48 : BitVec 32 := 8#32
  let c0_i32_49 : BitVec 32 := 0#32
  let v97 : BitVec 1 := Scalar.cmpi .eq c8_i32_48 c0_i32_49
  let c1_i32_50 : BitVec 32 := 1#32
  let v98 : BitVec 32 := Scalar.select v97 c1_i32_50 c8_i32_48
  let v99 : BitVec 32 := Scalar.remsi v96 v98
  let c0_i32_52 : BitVec 32 := 0#32
  let v101 : BitVec 1 := Scalar.cmpi .slt v99 c0_i32_52
  let c0_i32_53 : BitVec 32 := 0#32
  let v102 : BitVec 1 := Scalar.cmpi .slt v98 c0_i32_53
  let v103 : BitVec 1 := Scalar.xori v101 v102
  let c0_i32_51 : BitVec 32 := 0#32
  let v100 : BitVec 1 := Scalar.cmpi .ne v99 c0_i32_51
  let v104 : BitVec 1 := Scalar.andi v103 v100
  let v105 : BitVec 32 := Scalar.addi v99 v98
  let v106 : BitVec 32 := Scalar.select v104 v105 v99
  let c1_i32_55 : BitVec 32 := 1#32
  let v107 : BitVec 32 := Scalar.muli v106 c1_i32_55
  let v108 : BitVec 32 := Scalar.addi c0_i32_56 v107
  v108.toNat
def k0_dev5 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v109 : BitVec 32 := Scalar.addi v2 c5_i32
  let c8_i32_57 : BitVec 32 := 8#32
  let c0_i32_58 : BitVec 32 := 0#32
  let v110 : BitVec 1 := Scalar.cmpi .eq c8_i32_57 c0_i32_58
  let c1_i32_59 : BitVec 32 := 1#32
  let v111 : BitVec 32 := Scalar.select v110 c1_i32_59 c8_i32_57
  let v112 : BitVec 32 := Scalar.remsi v109 v111
  let c0_i32_61 : BitVec 32 := 0#32
  let v114 : BitVec 1 := Scalar.cmpi .slt v112 c0_i32_61
  let c0_i32_62 : BitVec 32 := 0#32
  let v115 : BitVec 1 := Scalar.cmpi .slt v111 c0_i32_62
  let v116 : BitVec 1 := Scalar.xori v114 v115
  let c0_i32_60 : BitVec 32 := 0#32
  let v113 : BitVec 1 := Scalar.cmpi .ne v112 c0_i32_60
  let v117 : BitVec 1 := Scalar.andi v116 v113
  let v118 : BitVec 32 := Scalar.addi v112 v111
  let v119 : BitVec 32 := Scalar.select v117 v118 v112
  let c1_i32_64 : BitVec 32 := 1#32
  let v120 : BitVec 32 := Scalar.muli v119 c1_i32_64
  let v121 : BitVec 32 := Scalar.addi c0_i32_65 v120
  v121.toNat
def k0_dev6 (d0 : Dev nD) : Nat :=
  let c0_i32_74 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v122 : BitVec 32 := Scalar.addi v2 c6_i32
  let c8_i32_66 : BitVec 32 := 8#32
  let c0_i32_67 : BitVec 32 := 0#32
  let v123 : BitVec 1 := Scalar.cmpi .eq c8_i32_66 c0_i32_67
  let c1_i32_68 : BitVec 32 := 1#32
  let v124 : BitVec 32 := Scalar.select v123 c1_i32_68 c8_i32_66
  let v125 : BitVec 32 := Scalar.remsi v122 v124
  let c0_i32_70 : BitVec 32 := 0#32
  let v127 : BitVec 1 := Scalar.cmpi .slt v125 c0_i32_70
  let c0_i32_71 : BitVec 32 := 0#32
  let v128 : BitVec 1 := Scalar.cmpi .slt v124 c0_i32_71
  let v129 : BitVec 1 := Scalar.xori v127 v128
  let c0_i32_69 : BitVec 32 := 0#32
  let v126 : BitVec 1 := Scalar.cmpi .ne v125 c0_i32_69
  let v130 : BitVec 1 := Scalar.andi v129 v126
  let v131 : BitVec 32 := Scalar.addi v125 v124
  let v132 : BitVec 32 := Scalar.select v130 v131 v125
  let c1_i32_73 : BitVec 32 := 1#32
  let v133 : BitVec 32 := Scalar.muli v132 c1_i32_73
  let v134 : BitVec 32 := Scalar.addi c0_i32_74 v133
  v134.toNat
def k0_dev7 (d0 : Dev nD) : Nat :=
  let c0_i32_83 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v135 : BitVec 32 := Scalar.addi v2 c7_i32
  let c8_i32_75 : BitVec 32 := 8#32
  let c0_i32_76 : BitVec 32 := 0#32
  let v136 : BitVec 1 := Scalar.cmpi .eq c8_i32_75 c0_i32_76
  let c1_i32_77 : BitVec 32 := 1#32
  let v137 : BitVec 32 := Scalar.select v136 c1_i32_77 c8_i32_75
  let v138 : BitVec 32 := Scalar.remsi v135 v137
  let c0_i32_79 : BitVec 32 := 0#32
  let v140 : BitVec 1 := Scalar.cmpi .slt v138 c0_i32_79
  let c0_i32_80 : BitVec 32 := 0#32
  let v141 : BitVec 1 := Scalar.cmpi .slt v137 c0_i32_80
  let v142 : BitVec 1 := Scalar.xori v140 v141
  let c0_i32_78 : BitVec 32 := 0#32
  let v139 : BitVec 1 := Scalar.cmpi .ne v138 c0_i32_78
  let v143 : BitVec 1 := Scalar.andi v142 v139
  let v144 : BitVec 32 := Scalar.addi v138 v137
  let v145 : BitVec 32 := Scalar.select v143 v144 v138
  let c1_i32_82 : BitVec 32 := 1#32
  let v146 : BitVec 32 := Scalar.muli v145 c1_i32_82
  let v147 : BitVec 32 := Scalar.addi c0_i32_83 v146
  v147.toNat
def k0_off1 (d0 : Dev nD) (c1_i32_85 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v148 : BitVec 32 := Scalar.addi v2 c1_i32_85
  let c8_i32_86 : BitVec 32 := 8#32
  let c0_i32_87 : BitVec 32 := 0#32
  let v149 : BitVec 1 := Scalar.cmpi .eq c8_i32_86 c0_i32_87
  let c1_i32_88 : BitVec 32 := 1#32
  let v150 : BitVec 32 := Scalar.select v149 c1_i32_88 c8_i32_86
  let v151 : BitVec 32 := Scalar.remsi v148 v150
  let c0_i32_90 : BitVec 32 := 0#32
  let v153 : BitVec 1 := Scalar.cmpi .slt v151 c0_i32_90
  let c0_i32_91 : BitVec 32 := 0#32
  let v154 : BitVec 1 := Scalar.cmpi .slt v150 c0_i32_91
  let v155 : BitVec 1 := Scalar.xori v153 v154
  let c0_i32_89 : BitVec 32 := 0#32
  let v152 : BitVec 1 := Scalar.cmpi .ne v151 c0_i32_89
  let v156 : BitVec 1 := Scalar.andi v155 v152
  let v157 : BitVec 32 := Scalar.addi v151 v150
  let v158 : BitVec 32 := Scalar.select v156 v157 v151
  ![v158.toNat]
def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_94 : BitVec 32 := 0#32
  let c0_i32_95 : BitVec 32 := 0#32
  ![v2.toNat, 0, 0]
def k0_off4 (d0 : Dev nD) (c1_i32_85 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v148 : BitVec 32 := Scalar.addi v2 c1_i32_85
  let c8_i32_86 : BitVec 32 := 8#32
  let c0_i32_87 : BitVec 32 := 0#32
  let v149 : BitVec 1 := Scalar.cmpi .eq c8_i32_86 c0_i32_87
  let c1_i32_88 : BitVec 32 := 1#32
  let v150 : BitVec 32 := Scalar.select v149 c1_i32_88 c8_i32_86
  let v151 : BitVec 32 := Scalar.remsi v148 v150
  let c0_i32_90 : BitVec 32 := 0#32
  let v153 : BitVec 1 := Scalar.cmpi .slt v151 c0_i32_90
  let c0_i32_91 : BitVec 32 := 0#32
  let v154 : BitVec 1 := Scalar.cmpi .slt v150 c0_i32_91
  let v155 : BitVec 1 := Scalar.xori v153 v154
  let c0_i32_89 : BitVec 32 := 0#32
  let v152 : BitVec 1 := Scalar.cmpi .ne v151 c0_i32_89
  let v156 : BitVec 1 := Scalar.andi v155 v152
  let v157 : BitVec 32 := Scalar.addi v151 v150
  let v158 : BitVec 32 := Scalar.select v156 v157 v151
  let c32_i32 : BitVec 32 := 32#32
  let v159 : BitVec 32 := Scalar.muli v158 c32_i32
  let c0_i32_96 : BitVec 32 := 0#32
  ![v159.toNat, 0]
def k0_dev8 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_85 : BitVec 32 := 1#32
  let v148 : BitVec 32 := Scalar.addi v2 c1_i32_85
  let c8_i32_86 : BitVec 32 := 8#32
  let c0_i32_87 : BitVec 32 := 0#32
  let v149 : BitVec 1 := Scalar.cmpi .eq c8_i32_86 c0_i32_87
  let c1_i32_88 : BitVec 32 := 1#32
  let v150 : BitVec 32 := Scalar.select v149 c1_i32_88 c8_i32_86
  let v151 : BitVec 32 := Scalar.remsi v148 v150
  let c0_i32_90 : BitVec 32 := 0#32
  let v153 : BitVec 1 := Scalar.cmpi .slt v151 c0_i32_90
  let c0_i32_91 : BitVec 32 := 0#32
  let v154 : BitVec 1 := Scalar.cmpi .slt v150 c0_i32_91
  let v155 : BitVec 1 := Scalar.xori v153 v154
  let c0_i32_89 : BitVec 32 := 0#32
  let v152 : BitVec 1 := Scalar.cmpi .ne v151 c0_i32_89
  let v156 : BitVec 1 := Scalar.andi v155 v152
  let v157 : BitVec 32 := Scalar.addi v151 v150
  let v158 : BitVec 32 := Scalar.select v156 v157 v151
  let c1_i32_92 : BitVec 32 := 1#32
  let v160 : BitVec 32 := Scalar.muli v158 c1_i32_92
  let v161 : BitVec 32 := Scalar.addi c0_i32_93 v160
  v161.toNat
def k0_dev9 (d0 : Dev nD) : Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_97 : BitVec 32 := 2#32
  let v169 : BitVec 32 := Scalar.addi v2 c2_i32_97
  let c8_i32_98 : BitVec 32 := 8#32
  let c0_i32_99 : BitVec 32 := 0#32
  let v170 : BitVec 1 := Scalar.cmpi .eq c8_i32_98 c0_i32_99
  let c1_i32_100 : BitVec 32 := 1#32
  let v171 : BitVec 32 := Scalar.select v170 c1_i32_100 c8_i32_98
  let v172 : BitVec 32 := Scalar.remsi v169 v171
  let c0_i32_102 : BitVec 32 := 0#32
  let v174 : BitVec 1 := Scalar.cmpi .slt v172 c0_i32_102
  let c0_i32_103 : BitVec 32 := 0#32
  let v175 : BitVec 1 := Scalar.cmpi .slt v171 c0_i32_103
  let v176 : BitVec 1 := Scalar.xori v174 v175
  let c0_i32_101 : BitVec 32 := 0#32
  let v173 : BitVec 1 := Scalar.cmpi .ne v172 c0_i32_101
  let v177 : BitVec 1 := Scalar.andi v176 v173
  let v178 : BitVec 32 := Scalar.addi v172 v171
  let v179 : BitVec 32 := Scalar.select v177 v178 v172
  let c1_i32_105 : BitVec 32 := 1#32
  let v181 : BitVec 32 := Scalar.muli v179 c1_i32_105
  let v182 : BitVec 32 := Scalar.addi c0_i32_106 v181
  v182.toNat
def k0_dev10 (d0 : Dev nD) : Nat :=
  let c0_i32_119 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_110 : BitVec 32 := 3#32
  let v190 : BitVec 32 := Scalar.addi v2 c3_i32_110
  let c8_i32_111 : BitVec 32 := 8#32
  let c0_i32_112 : BitVec 32 := 0#32
  let v191 : BitVec 1 := Scalar.cmpi .eq c8_i32_111 c0_i32_112
  let c1_i32_113 : BitVec 32 := 1#32
  let v192 : BitVec 32 := Scalar.select v191 c1_i32_113 c8_i32_111
  let v193 : BitVec 32 := Scalar.remsi v190 v192
  let c0_i32_115 : BitVec 32 := 0#32
  let v195 : BitVec 1 := Scalar.cmpi .slt v193 c0_i32_115
  let c0_i32_116 : BitVec 32 := 0#32
  let v196 : BitVec 1 := Scalar.cmpi .slt v192 c0_i32_116
  let v197 : BitVec 1 := Scalar.xori v195 v196
  let c0_i32_114 : BitVec 32 := 0#32
  let v194 : BitVec 1 := Scalar.cmpi .ne v193 c0_i32_114
  let v198 : BitVec 1 := Scalar.andi v197 v194
  let v199 : BitVec 32 := Scalar.addi v193 v192
  let v200 : BitVec 32 := Scalar.select v198 v199 v193
  let c1_i32_118 : BitVec 32 := 1#32
  let v202 : BitVec 32 := Scalar.muli v200 c1_i32_118
  let v203 : BitVec 32 := Scalar.addi c0_i32_119 v202
  v203.toNat
def k0_dev11 (d0 : Dev nD) : Nat :=
  let c0_i32_132 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_123 : BitVec 32 := 4#32
  let v211 : BitVec 32 := Scalar.addi v2 c4_i32_123
  let c8_i32_124 : BitVec 32 := 8#32
  let c0_i32_125 : BitVec 32 := 0#32
  let v212 : BitVec 1 := Scalar.cmpi .eq c8_i32_124 c0_i32_125
  let c1_i32_126 : BitVec 32 := 1#32
  let v213 : BitVec 32 := Scalar.select v212 c1_i32_126 c8_i32_124
  let v214 : BitVec 32 := Scalar.remsi v211 v213
  let c0_i32_128 : BitVec 32 := 0#32
  let v216 : BitVec 1 := Scalar.cmpi .slt v214 c0_i32_128
  let c0_i32_129 : BitVec 32 := 0#32
  let v217 : BitVec 1 := Scalar.cmpi .slt v213 c0_i32_129
  let v218 : BitVec 1 := Scalar.xori v216 v217
  let c0_i32_127 : BitVec 32 := 0#32
  let v215 : BitVec 1 := Scalar.cmpi .ne v214 c0_i32_127
  let v219 : BitVec 1 := Scalar.andi v218 v215
  let v220 : BitVec 32 := Scalar.addi v214 v213
  let v221 : BitVec 32 := Scalar.select v219 v220 v214
  let c1_i32_131 : BitVec 32 := 1#32
  let v223 : BitVec 32 := Scalar.muli v221 c1_i32_131
  let v224 : BitVec 32 := Scalar.addi c0_i32_132 v223
  v224.toNat
def k0_dev12 (d0 : Dev nD) : Nat :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_136 : BitVec 32 := 5#32
  let v232 : BitVec 32 := Scalar.addi v2 c5_i32_136
  let c8_i32_137 : BitVec 32 := 8#32
  let c0_i32_138 : BitVec 32 := 0#32
  let v233 : BitVec 1 := Scalar.cmpi .eq c8_i32_137 c0_i32_138
  let c1_i32_139 : BitVec 32 := 1#32
  let v234 : BitVec 32 := Scalar.select v233 c1_i32_139 c8_i32_137
  let v235 : BitVec 32 := Scalar.remsi v232 v234
  let c0_i32_141 : BitVec 32 := 0#32
  let v237 : BitVec 1 := Scalar.cmpi .slt v235 c0_i32_141
  let c0_i32_142 : BitVec 32 := 0#32
  let v238 : BitVec 1 := Scalar.cmpi .slt v234 c0_i32_142
  let v239 : BitVec 1 := Scalar.xori v237 v238
  let c0_i32_140 : BitVec 32 := 0#32
  let v236 : BitVec 1 := Scalar.cmpi .ne v235 c0_i32_140
  let v240 : BitVec 1 := Scalar.andi v239 v236
  let v241 : BitVec 32 := Scalar.addi v235 v234
  let v242 : BitVec 32 := Scalar.select v240 v241 v235
  let c1_i32_144 : BitVec 32 := 1#32
  let v244 : BitVec 32 := Scalar.muli v242 c1_i32_144
  let v245 : BitVec 32 := Scalar.addi c0_i32_145 v244
  v245.toNat
def k0_dev13 (d0 : Dev nD) : Nat :=
  let c0_i32_158 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_149 : BitVec 32 := 6#32
  let v253 : BitVec 32 := Scalar.addi v2 c6_i32_149
  let c8_i32_150 : BitVec 32 := 8#32
  let c0_i32_151 : BitVec 32 := 0#32
  let v254 : BitVec 1 := Scalar.cmpi .eq c8_i32_150 c0_i32_151
  let c1_i32_152 : BitVec 32 := 1#32
  let v255 : BitVec 32 := Scalar.select v254 c1_i32_152 c8_i32_150
  let v256 : BitVec 32 := Scalar.remsi v253 v255
  let c0_i32_154 : BitVec 32 := 0#32
  let v258 : BitVec 1 := Scalar.cmpi .slt v256 c0_i32_154
  let c0_i32_155 : BitVec 32 := 0#32
  let v259 : BitVec 1 := Scalar.cmpi .slt v255 c0_i32_155
  let v260 : BitVec 1 := Scalar.xori v258 v259
  let c0_i32_153 : BitVec 32 := 0#32
  let v257 : BitVec 1 := Scalar.cmpi .ne v256 c0_i32_153
  let v261 : BitVec 1 := Scalar.andi v260 v257
  let v262 : BitVec 32 := Scalar.addi v256 v255
  let v263 : BitVec 32 := Scalar.select v261 v262 v256
  let c1_i32_157 : BitVec 32 := 1#32
  let v265 : BitVec 32 := Scalar.muli v263 c1_i32_157
  let v266 : BitVec 32 := Scalar.addi c0_i32_158 v265
  v266.toNat
def k0_dev14 (d0 : Dev nD) : Nat :=
  let c0_i32_171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_162 : BitVec 32 := 7#32
  let v274 : BitVec 32 := Scalar.addi v2 c7_i32_162
  let c8_i32_163 : BitVec 32 := 8#32
  let c0_i32_164 : BitVec 32 := 0#32
  let v275 : BitVec 1 := Scalar.cmpi .eq c8_i32_163 c0_i32_164
  let c1_i32_165 : BitVec 32 := 1#32
  let v276 : BitVec 32 := Scalar.select v275 c1_i32_165 c8_i32_163
  let v277 : BitVec 32 := Scalar.remsi v274 v276
  let c0_i32_167 : BitVec 32 := 0#32
  let v279 : BitVec 1 := Scalar.cmpi .slt v277 c0_i32_167
  let c0_i32_168 : BitVec 32 := 0#32
  let v280 : BitVec 1 := Scalar.cmpi .slt v276 c0_i32_168
  let v281 : BitVec 1 := Scalar.xori v279 v280
  let c0_i32_166 : BitVec 32 := 0#32
  let v278 : BitVec 1 := Scalar.cmpi .ne v277 c0_i32_166
  let v282 : BitVec 1 := Scalar.andi v281 v278
  let v283 : BitVec 32 := Scalar.addi v277 v276
  let v284 : BitVec 32 := Scalar.select v282 v283 v277
  let c1_i32_170 : BitVec 32 := 1#32
  let v286 : BitVec 32 := Scalar.muli v284 c1_i32_170
  let v287 : BitVec 32 := Scalar.addi c0_i32_171 v286
  v287.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_175 : BitVec 32 := 32#32
  let v295 : BitVec 32 := Scalar.muli v2 c32_i32_175
  let v296 : Index := Scalar.indexCast v295
  let c0_176 : Index := 0#32
  ![v296.toNat, 0]
def k0_off6 (d0 : Dev nD) (c1_i32_177 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v299 : BitVec 32 := Scalar.addi v2 c1_i32_177
  let c8_i32_178 : BitVec 32 := 8#32
  let c0_i32_179 : BitVec 32 := 0#32
  let v300 : BitVec 1 := Scalar.cmpi .eq c8_i32_178 c0_i32_179
  let c1_i32_180 : BitVec 32 := 1#32
  let v301 : BitVec 32 := Scalar.select v300 c1_i32_180 c8_i32_178
  let v302 : BitVec 32 := Scalar.remsi v299 v301
  let c0_i32_182 : BitVec 32 := 0#32
  let v304 : BitVec 1 := Scalar.cmpi .slt v302 c0_i32_182
  let c0_i32_183 : BitVec 32 := 0#32
  let v305 : BitVec 1 := Scalar.cmpi .slt v301 c0_i32_183
  let v306 : BitVec 1 := Scalar.xori v304 v305
  let c0_i32_181 : BitVec 32 := 0#32
  let v303 : BitVec 1 := Scalar.cmpi .ne v302 c0_i32_181
  let v307 : BitVec 1 := Scalar.andi v306 v303
  let v308 : BitVec 32 := Scalar.addi v302 v301
  let v309 : BitVec 32 := Scalar.select v307 v308 v302
  let c0_i32_186 : BitVec 32 := 0#32
  let c0_i32_187 : BitVec 32 := 0#32
  ![v309.toNat, 0, 0]
def k0_off7 (d0 : Dev nD) (c1_i32_177 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v299 : BitVec 32 := Scalar.addi v2 c1_i32_177
  let c8_i32_178 : BitVec 32 := 8#32
  let c0_i32_179 : BitVec 32 := 0#32
  let v300 : BitVec 1 := Scalar.cmpi .eq c8_i32_178 c0_i32_179
  let c1_i32_180 : BitVec 32 := 1#32
  let v301 : BitVec 32 := Scalar.select v300 c1_i32_180 c8_i32_178
  let v302 : BitVec 32 := Scalar.remsi v299 v301
  let c0_i32_182 : BitVec 32 := 0#32
  let v304 : BitVec 1 := Scalar.cmpi .slt v302 c0_i32_182
  let c0_i32_183 : BitVec 32 := 0#32
  let v305 : BitVec 1 := Scalar.cmpi .slt v301 c0_i32_183
  let v306 : BitVec 1 := Scalar.xori v304 v305
  let c0_i32_181 : BitVec 32 := 0#32
  let v303 : BitVec 1 := Scalar.cmpi .ne v302 c0_i32_181
  let v307 : BitVec 1 := Scalar.andi v306 v303
  let v308 : BitVec 32 := Scalar.addi v302 v301
  let v309 : BitVec 32 := Scalar.select v307 v308 v302
  let v317 : Index := Scalar.indexCast v309
  let c0_190 : Index := 0#32
  let c0_191 : Index := 0#32
  ![v317.toNat, 0, 0]
def k0_dev15 (d0 : Dev nD) : Nat :=
  let c0_i32_321_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_312_r0 : BitVec 32 := 1#32
  let v497_r0 : BitVec 32 := Scalar.addi v2 c1_i32_312_r0
  let c8_i32_313_r0 : BitVec 32 := 8#32
  let c0_i32_314_r0 : BitVec 32 := 0#32
  let v498_r0 : BitVec 1 := Scalar.cmpi .eq c8_i32_313_r0 c0_i32_314_r0
  let c1_i32_315_r0 : BitVec 32 := 1#32
  let v499_r0 : BitVec 32 := Scalar.select v498_r0 c1_i32_315_r0 c8_i32_313_r0
  let v500_r0 : BitVec 32 := Scalar.remsi v497_r0 v499_r0
  let c0_i32_317_r0 : BitVec 32 := 0#32
  let v502_r0 : BitVec 1 := Scalar.cmpi .slt v500_r0 c0_i32_317_r0
  let c0_i32_318_r0 : BitVec 32 := 0#32
  let v503_r0 : BitVec 1 := Scalar.cmpi .slt v499_r0 c0_i32_318_r0
  let v504_r0 : BitVec 1 := Scalar.xori v502_r0 v503_r0
  let c0_i32_316_r0 : BitVec 32 := 0#32
  let v501_r0 : BitVec 1 := Scalar.cmpi .ne v500_r0 c0_i32_316_r0
  let v505_r0 : BitVec 1 := Scalar.andi v504_r0 v501_r0
  let v506_r0 : BitVec 32 := Scalar.addi v500_r0 v499_r0
  let v507_r0 : BitVec 32 := Scalar.select v505_r0 v506_r0 v500_r0
  let c1_i32_320_r0 : BitVec 32 := 1#32
  let v508_r0 : BitVec 32 := Scalar.muli v507_r0 c1_i32_320_r0
  let v509_r0 : BitVec 32 := Scalar.addi c0_i32_321_r0 v508_r0
  v509_r0.toNat
def k0_dev16 (d0 : Dev nD) : Nat :=
  let c0_i32_331_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_322_r0 : BitVec 32 := 2#32
  let v510_r0 : BitVec 32 := Scalar.addi v2 c2_i32_322_r0
  let c8_i32_323_r0 : BitVec 32 := 8#32
  let c0_i32_324_r0 : BitVec 32 := 0#32
  let v511_r0 : BitVec 1 := Scalar.cmpi .eq c8_i32_323_r0 c0_i32_324_r0
  let c1_i32_325_r0 : BitVec 32 := 1#32
  let v512_r0 : BitVec 32 := Scalar.select v511_r0 c1_i32_325_r0 c8_i32_323_r0
  let v513_r0 : BitVec 32 := Scalar.remsi v510_r0 v512_r0
  let c0_i32_327_r0 : BitVec 32 := 0#32
  let v515_r0 : BitVec 1 := Scalar.cmpi .slt v513_r0 c0_i32_327_r0
  let c0_i32_328_r0 : BitVec 32 := 0#32
  let v516_r0 : BitVec 1 := Scalar.cmpi .slt v512_r0 c0_i32_328_r0
  let v517_r0 : BitVec 1 := Scalar.xori v515_r0 v516_r0
  let c0_i32_326_r0 : BitVec 32 := 0#32
  let v514_r0 : BitVec 1 := Scalar.cmpi .ne v513_r0 c0_i32_326_r0
  let v518_r0 : BitVec 1 := Scalar.andi v517_r0 v514_r0
  let v519_r0 : BitVec 32 := Scalar.addi v513_r0 v512_r0
  let v520_r0 : BitVec 32 := Scalar.select v518_r0 v519_r0 v513_r0
  let c1_i32_330_r0 : BitVec 32 := 1#32
  let v521_r0 : BitVec 32 := Scalar.muli v520_r0 c1_i32_330_r0
  let v522_r0 : BitVec 32 := Scalar.addi c0_i32_331_r0 v521_r0
  v522_r0.toNat
def k0_dev17 (d0 : Dev nD) : Nat :=
  let c0_i32_341_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_332_r0 : BitVec 32 := 3#32
  let v523_r0 : BitVec 32 := Scalar.addi v2 c3_i32_332_r0
  let c8_i32_333_r0 : BitVec 32 := 8#32
  let c0_i32_334_r0 : BitVec 32 := 0#32
  let v524_r0 : BitVec 1 := Scalar.cmpi .eq c8_i32_333_r0 c0_i32_334_r0
  let c1_i32_335_r0 : BitVec 32 := 1#32
  let v525_r0 : BitVec 32 := Scalar.select v524_r0 c1_i32_335_r0 c8_i32_333_r0
  let v526_r0 : BitVec 32 := Scalar.remsi v523_r0 v525_r0
  let c0_i32_337_r0 : BitVec 32 := 0#32
  let v528_r0 : BitVec 1 := Scalar.cmpi .slt v526_r0 c0_i32_337_r0
  let c0_i32_338_r0 : BitVec 32 := 0#32
  let v529_r0 : BitVec 1 := Scalar.cmpi .slt v525_r0 c0_i32_338_r0
  let v530_r0 : BitVec 1 := Scalar.xori v528_r0 v529_r0
  let c0_i32_336_r0 : BitVec 32 := 0#32
  let v527_r0 : BitVec 1 := Scalar.cmpi .ne v526_r0 c0_i32_336_r0
  let v531_r0 : BitVec 1 := Scalar.andi v530_r0 v527_r0
  let v532_r0 : BitVec 32 := Scalar.addi v526_r0 v525_r0
  let v533_r0 : BitVec 32 := Scalar.select v531_r0 v532_r0 v526_r0
  let c1_i32_340_r0 : BitVec 32 := 1#32
  let v534_r0 : BitVec 32 := Scalar.muli v533_r0 c1_i32_340_r0
  let v535_r0 : BitVec 32 := Scalar.addi c0_i32_341_r0 v534_r0
  v535_r0.toNat
def k0_dev18 (d0 : Dev nD) : Nat :=
  let c0_i32_351_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_342_r0 : BitVec 32 := 4#32
  let v536_r0 : BitVec 32 := Scalar.addi v2 c4_i32_342_r0
  let c8_i32_343_r0 : BitVec 32 := 8#32
  let c0_i32_344_r0 : BitVec 32 := 0#32
  let v537_r0 : BitVec 1 := Scalar.cmpi .eq c8_i32_343_r0 c0_i32_344_r0
  let c1_i32_345_r0 : BitVec 32 := 1#32
  let v538_r0 : BitVec 32 := Scalar.select v537_r0 c1_i32_345_r0 c8_i32_343_r0
  let v539_r0 : BitVec 32 := Scalar.remsi v536_r0 v538_r0
  let c0_i32_347_r0 : BitVec 32 := 0#32
  let v541_r0 : BitVec 1 := Scalar.cmpi .slt v539_r0 c0_i32_347_r0
  let c0_i32_348_r0 : BitVec 32 := 0#32
  let v542_r0 : BitVec 1 := Scalar.cmpi .slt v538_r0 c0_i32_348_r0
  let v543_r0 : BitVec 1 := Scalar.xori v541_r0 v542_r0
  let c0_i32_346_r0 : BitVec 32 := 0#32
  let v540_r0 : BitVec 1 := Scalar.cmpi .ne v539_r0 c0_i32_346_r0
  let v544_r0 : BitVec 1 := Scalar.andi v543_r0 v540_r0
  let v545_r0 : BitVec 32 := Scalar.addi v539_r0 v538_r0
  let v546_r0 : BitVec 32 := Scalar.select v544_r0 v545_r0 v539_r0
  let c1_i32_350_r0 : BitVec 32 := 1#32
  let v547_r0 : BitVec 32 := Scalar.muli v546_r0 c1_i32_350_r0
  let v548_r0 : BitVec 32 := Scalar.addi c0_i32_351_r0 v547_r0
  v548_r0.toNat
def k0_dev19 (d0 : Dev nD) : Nat :=
  let c0_i32_361_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_352_r0 : BitVec 32 := 5#32
  let v549_r0 : BitVec 32 := Scalar.addi v2 c5_i32_352_r0
  let c8_i32_353_r0 : BitVec 32 := 8#32
  let c0_i32_354_r0 : BitVec 32 := 0#32
  let v550_r0 : BitVec 1 := Scalar.cmpi .eq c8_i32_353_r0 c0_i32_354_r0
  let c1_i32_355_r0 : BitVec 32 := 1#32
  let v551_r0 : BitVec 32 := Scalar.select v550_r0 c1_i32_355_r0 c8_i32_353_r0
  let v552_r0 : BitVec 32 := Scalar.remsi v549_r0 v551_r0
  let c0_i32_357_r0 : BitVec 32 := 0#32
  let v554_r0 : BitVec 1 := Scalar.cmpi .slt v552_r0 c0_i32_357_r0
  let c0_i32_358_r0 : BitVec 32 := 0#32
  let v555_r0 : BitVec 1 := Scalar.cmpi .slt v551_r0 c0_i32_358_r0
  let v556_r0 : BitVec 1 := Scalar.xori v554_r0 v555_r0
  let c0_i32_356_r0 : BitVec 32 := 0#32
  let v553_r0 : BitVec 1 := Scalar.cmpi .ne v552_r0 c0_i32_356_r0
  let v557_r0 : BitVec 1 := Scalar.andi v556_r0 v553_r0
  let v558_r0 : BitVec 32 := Scalar.addi v552_r0 v551_r0
  let v559_r0 : BitVec 32 := Scalar.select v557_r0 v558_r0 v552_r0
  let c1_i32_360_r0 : BitVec 32 := 1#32
  let v560_r0 : BitVec 32 := Scalar.muli v559_r0 c1_i32_360_r0
  let v561_r0 : BitVec 32 := Scalar.addi c0_i32_361_r0 v560_r0
  v561_r0.toNat
def k0_dev20 (d0 : Dev nD) : Nat :=
  let c0_i32_371_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_362_r0 : BitVec 32 := 6#32
  let v562_r0 : BitVec 32 := Scalar.addi v2 c6_i32_362_r0
  let c8_i32_363_r0 : BitVec 32 := 8#32
  let c0_i32_364_r0 : BitVec 32 := 0#32
  let v563_r0 : BitVec 1 := Scalar.cmpi .eq c8_i32_363_r0 c0_i32_364_r0
  let c1_i32_365_r0 : BitVec 32 := 1#32
  let v564_r0 : BitVec 32 := Scalar.select v563_r0 c1_i32_365_r0 c8_i32_363_r0
  let v565_r0 : BitVec 32 := Scalar.remsi v562_r0 v564_r0
  let c0_i32_367_r0 : BitVec 32 := 0#32
  let v567_r0 : BitVec 1 := Scalar.cmpi .slt v565_r0 c0_i32_367_r0
  let c0_i32_368_r0 : BitVec 32 := 0#32
  let v568_r0 : BitVec 1 := Scalar.cmpi .slt v564_r0 c0_i32_368_r0
  let v569_r0 : BitVec 1 := Scalar.xori v567_r0 v568_r0
  let c0_i32_366_r0 : BitVec 32 := 0#32
  let v566_r0 : BitVec 1 := Scalar.cmpi .ne v565_r0 c0_i32_366_r0
  let v570_r0 : BitVec 1 := Scalar.andi v569_r0 v566_r0
  let v571_r0 : BitVec 32 := Scalar.addi v565_r0 v564_r0
  let v572_r0 : BitVec 32 := Scalar.select v570_r0 v571_r0 v565_r0
  let c1_i32_370_r0 : BitVec 32 := 1#32
  let v573_r0 : BitVec 32 := Scalar.muli v572_r0 c1_i32_370_r0
  let v574_r0 : BitVec 32 := Scalar.addi c0_i32_371_r0 v573_r0
  v574_r0.toNat
def k0_dev21 (d0 : Dev nD) : Nat :=
  let c0_i32_381_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_372_r0 : BitVec 32 := 7#32
  let v575_r0 : BitVec 32 := Scalar.addi v2 c7_i32_372_r0
  let c8_i32_373_r0 : BitVec 32 := 8#32
  let c0_i32_374_r0 : BitVec 32 := 0#32
  let v576_r0 : BitVec 1 := Scalar.cmpi .eq c8_i32_373_r0 c0_i32_374_r0
  let c1_i32_375_r0 : BitVec 32 := 1#32
  let v577_r0 : BitVec 32 := Scalar.select v576_r0 c1_i32_375_r0 c8_i32_373_r0
  let v578_r0 : BitVec 32 := Scalar.remsi v575_r0 v577_r0
  let c0_i32_377_r0 : BitVec 32 := 0#32
  let v580_r0 : BitVec 1 := Scalar.cmpi .slt v578_r0 c0_i32_377_r0
  let c0_i32_378_r0 : BitVec 32 := 0#32
  let v581_r0 : BitVec 1 := Scalar.cmpi .slt v577_r0 c0_i32_378_r0
  let v582_r0 : BitVec 1 := Scalar.xori v580_r0 v581_r0
  let c0_i32_376_r0 : BitVec 32 := 0#32
  let v579_r0 : BitVec 1 := Scalar.cmpi .ne v578_r0 c0_i32_376_r0
  let v583_r0 : BitVec 1 := Scalar.andi v582_r0 v579_r0
  let v584_r0 : BitVec 32 := Scalar.addi v578_r0 v577_r0
  let v585_r0 : BitVec 32 := Scalar.select v583_r0 v584_r0 v578_r0
  let c1_i32_380_r0 : BitVec 32 := 1#32
  let v586_r0 : BitVec 32 := Scalar.muli v585_r0 c1_i32_380_r0
  let v587_r0 : BitVec 32 := Scalar.addi c0_i32_381_r0 v586_r0
  v587_r0.toNat
abbrev stage0_0 : Fin 1 → Memref sig .tc .vmem S256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S256x128 : Shape := ⟨2, ![256, 128]⟩
abbrev S128x16 : Shape := ⟨2, ![128, 16]⟩
abbrev S256x1 : Shape := ⟨2, ![256, 1]⟩
abbrev S16x128x256 : Shape := ⟨3, ![16, 128, 256]⟩
abbrev S256 : Shape := ⟨1, ![256]⟩
abbrev S1x256 : Shape := ⟨2, ![1, 256]⟩
abbrev S256x256 : Shape := ⟨2, ![256, 256]⟩
abbrev S_ : Shape := ⟨0, ![]⟩
abbrev S256x128x256 : Shape := ⟨3, ![256, 128, 256]⟩

abbrev nBuf : Space → Nat
  | .hbm => 49
  | .vmem => 0
  | .smem => 0
  | _ => 0

abbrev bufTy : (tb : Table) → Fin (tcTables nBuf tb) → BufTy
  | .hbm, ⟨0, _⟩ => ⟨S256x128, .bf16⟩
  | .hbm, ⟨1, _⟩ => ⟨S128x16, .bf16⟩
  | .hbm, ⟨2, _⟩ => ⟨S256x1, .i32⟩
  | .hbm, ⟨3, _⟩ => ⟨S16x128x256, .bf16⟩
  | .hbm, ⟨4, _⟩ => ⟨S256, .i32⟩
  | .hbm, ⟨5, _⟩ => ⟨S256, .i32⟩
  | .hbm, ⟨6, _⟩ => ⟨S256x1, .i32⟩
  | .hbm, ⟨7, _⟩ => ⟨S1x256, .i32⟩
  | .hbm, ⟨8, _⟩ => ⟨S256x256, .i32⟩
  | .hbm, ⟨9, _⟩ => ⟨S256x256, .i32⟩
  | .hbm, ⟨10, _⟩ => ⟨S256x256, .i1⟩
  | .hbm, ⟨11, _⟩ => ⟨S1x256, .i32⟩
  | .hbm, ⟨12, _⟩ => ⟨S256x1, .i32⟩
  | .hbm, ⟨13, _⟩ => ⟨S256x256, .i32⟩
  | .hbm, ⟨14, _⟩ => ⟨S256x256, .i32⟩
  | .hbm, ⟨15, _⟩ => ⟨S256x256, .i1⟩
  | .hbm, ⟨16, _⟩ => ⟨S256x256, .i1⟩
  | .hbm, ⟨17, _⟩ => ⟨S256x256, .i32⟩
  | .hbm, ⟨18, _⟩ => ⟨S_, .i32⟩
  | .hbm, ⟨19, _⟩ => ⟨S256, .i32⟩
  | .hbm, ⟨20, _⟩ => ⟨S_, .i32⟩
  | .hbm, ⟨21, _⟩ => ⟨S256, .i32⟩
  | .hbm, ⟨22, _⟩ => ⟨S256, .i1⟩
  | .hbm, ⟨23, _⟩ => ⟨S_, .i32⟩
  | .hbm, ⟨24, _⟩ => ⟨S256, .i32⟩
  | .hbm, ⟨25, _⟩ => ⟨S256, .i1⟩
  | .hbm, ⟨26, _⟩ => ⟨S_, .i32⟩
  | .hbm, ⟨27, _⟩ => ⟨S256, .i32⟩
  | .hbm, ⟨28, _⟩ => ⟨S256, .i1⟩
  | .hbm, ⟨29, _⟩ => ⟨S256, .i1⟩
  | .hbm, ⟨30, _⟩ => ⟨S256, .i1⟩
  | .hbm, ⟨31, _⟩ => ⟨S16x128x256, .f32⟩
  | .hbm, ⟨32, _⟩ => ⟨S_, .i32⟩
  | .hbm, ⟨33, _⟩ => ⟨S256, .i32⟩
  | .hbm, ⟨34, _⟩ => ⟨S256, .i1⟩
  | .hbm, ⟨35, _⟩ => ⟨S_, .i32⟩
  | .hbm, ⟨36, _⟩ => ⟨S256, .i32⟩
  | .hbm, ⟨37, _⟩ => ⟨S256, .i32⟩
  | .hbm, ⟨38, _⟩ => ⟨S256, .i32⟩
  | .hbm, ⟨39, _⟩ => ⟨S256x1, .i32⟩
  | .hbm, ⟨40, _⟩ => ⟨S256x128x256, .f32⟩
  | .hbm, ⟨41, _⟩ => ⟨S256x128, .f32⟩
  | .hbm, ⟨42, _⟩ => ⟨S256x256, .f32⟩
  | .hbm, ⟨43, _⟩ => ⟨S256x1, .i1⟩
  | .hbm, ⟨44, _⟩ => ⟨S_, .f32⟩
  | .hbm, ⟨45, _⟩ => ⟨S_, .f32⟩
  | .hbm, ⟨46, _⟩ => ⟨S256x256, .i1⟩
  | .hbm, ⟨47, _⟩ => ⟨S256x256, .f32⟩
  | .hbm, ⟨48, _⟩ => ⟨S256x256, .f32⟩
  | _, _ => ⟨S256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_3 : Ref sig .tc := ⟨.hbm, 32, rfl⟩
abbrev main_v24 : Ref sig .tc := ⟨.hbm, 33, rfl⟩
abbrev main_v25 : Ref sig .tc := ⟨.hbm, 34, rfl⟩
abbrev main_c_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Proof.Mesh.lean ====
/-
# The eight devices, their buffers in pieces and their semaphores

Every device holds a 256×256 accumulator, cut here into eight blocks of 32 rows (block `t` is what device `t` is to
receive), and a landing buffer of eight 32×256 slots (slot `s` is where device `s` writes). This module names the
pieces and the semaphores, gives the program's computed device numbers and offsets in closed form, and shows
that the blocks (and the slots) are disjoint and cover their buffer.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Tactic

@[expose] public section

set_option maxRecDepth 16384

noncomputable section

namespace Cert.KernelProof

open Cert.KernelIdeal Cert.KernelIdeal.Gen
open Idealize.ShloMosaic Idealize.ShloMosaic.TcCoe

/-! ## The devices around the mesh -/

/-- The `o`-th of the seven other devices, counted from the one after `c`. -/
def peer (c : Dev nD) (o : Fin 7) : Dev nD := ⟨(c.val + 1 + o.val) % 8, Nat.mod_lt _ (by decide)⟩

theorem peer_ne (c : Dev nD) (o : Fin 7) : peer c o ≠ c := by revert c o; decide
theorem peer_inj (c : Dev nD) {o o' : Fin 7} (h : peer c o = peer c o') : o = o' := by revert c o o'; decide

/-- The other devices, in the order a device addresses them. -/
abbrev others (c : Dev nD) : List (Dev nD) := [peer c 0, peer c 1, peer c 2, peer c 3, peer c 4, peer c 5, peer c 6]

theorem others_eq (c : Dev nD) : (Finset.univ.erase c : Finset (Dev nD)) = (others c).toFinset := by revert c; decide
theorem others_nodup (c : Dev nD) : (others c).Nodup := by revert c; decide

/-! ## The program's device numbers and offsets, in closed form -/

theorem off1_eq : ∀ (c : Dev nD) (o : Fin 7), k0_off1 c (BitVec.ofNat 32 (1 + o.val)) = ![(peer c o).val] := by decide +kernel
theorem off4_eq : ∀ (c : Dev nD) (o : Fin 7), k0_off4 c (BitVec.ofNat 32 (1 + o.val)) = ![32 * (peer c o).val, 0] := by decide +kernel
theorem off6_eq : ∀ (c : Dev nD) (o : Fin 7), k0_off6 c (BitVec.ofNat 32 (1 + o.val)) = ![(peer c o).val, 0, 0] := by decide +kernel
theorem off7_eq : ∀ (c : Dev nD) (o : Fin 7), k0_off7 c (BitVec.ofNat 32 (1 + o.val)) = ![(peer c o).val, 0, 0] := by decide +kernel

theorem sig_dev0 (c : Dev nD) : (⟨k0_dev1 c, k0_dev1_lt c⟩ : Dev nD) = peer c 0 := by revert c; decide +kernel
theorem sig_dev1 (c : Dev nD) : (⟨k0_dev2 c, k0_dev2_lt c⟩ : Dev nD) = peer c 1 := by revert c; decide +kernel
theorem sig_dev2 (c : Dev nD) : (⟨k0_dev3 c, k0_dev3_lt c⟩ : Dev nD) = peer c 2 := by revert c; decide +kernel
theorem sig_dev3 (c : Dev nD) : (⟨k0_dev4 c, k0_dev4_lt c⟩ : Dev nD) = peer c 3 := by revert c; decide +kernel
theorem sig_dev4 (c : Dev nD) : (⟨k0_dev5 c, k0_dev5_lt c⟩ : Dev nD) = peer c 4 := by revert c; decide +kernel
theorem sig_dev5 (c : Dev nD) : (⟨k0_dev6 c, k0_dev6_lt c⟩ : Dev nD) = peer c 5 := by revert c; decide +kernel
theorem sig_dev6 (c : Dev nD) : (⟨k0_dev7 c, k0_dev7_lt c⟩ : Dev nD) = peer c 6 := by revert c; decide +kernel
theorem dma_dev0 (c : Dev nD) : (⟨k0_dev8 c, k0_dev8_lt c⟩ : Dev nD) = peer c 0 := by revert c; decide +kernel
theorem dma_dev1 (c : Dev nD) : (⟨k0_dev9 c, k0_dev9_lt c⟩ : Dev nD) = peer c 1 := by revert c; decide +kernel
theorem dma_dev2 (c : Dev nD) : (⟨k0_dev10 c, k0_dev10_lt c⟩ : Dev nD) = peer c 2 := by revert c; decide +kernel
theorem dma_dev3 (c : Dev nD) : (⟨k0_dev11 c, k0_dev11_lt c⟩ : Dev nD) = peer c 3 := by revert c; decide +kernel
theorem dma_dev4 (c : Dev nD) : (⟨k0_dev12 c, k0_dev12_lt c⟩ : Dev nD) = peer c 4 := by revert c; decide +kernel
theorem dma_dev5 (c : Dev nD) : (⟨k0_dev13 c, k0_dev13_lt c⟩ : Dev nD) = peer c 5 := by revert c; decide +kernel
theorem dma_dev6 (c : Dev nD) : (⟨k0_dev14 c, k0_dev14_lt c⟩ : Dev nD) = peer c 6 := by revert c; decide +kernel
theorem exit_dev0 (c : Dev nD) : (⟨k0_dev15 c, k0_dev15_lt c⟩ : Dev nD) = peer c 0 := by revert c; decide +kernel
theorem exit_dev1 (c : Dev nD) : (⟨k0_dev16 c, k0_dev16_lt c⟩ : Dev nD) = peer c 1 := by revert c; decide +kernel
theorem exit_dev2 (c : Dev nD) : (⟨k0_dev17 c, k0_dev17_lt c⟩ : Dev nD) = peer c 2 := by revert c; decide +kernel
theorem exit_dev3 (c : Dev nD) : (⟨k0_dev18 c, k0_dev18_lt c⟩ : Dev nD) = peer c 3 := by revert c; decide +kernel
theorem exit_dev4 (c : Dev nD) : (⟨k0_dev19 c, k0_dev19_lt c⟩ : Dev nD) = peer c 4 := by revert c; decide +kernel
theorem exit_dev5 (c : Dev nD) : (⟨k0_dev20 c, k0_dev20_lt c⟩ : Dev nD) = peer c 5 := by revert c; decide +kernel
theorem exit_dev6 (c : Dev nD) : (⟨k0_dev21 c, k0_dev21_lt c⟩ : Dev nD) = peer c 6 := by revert c; decide +kernel

/-! ## The buffers and their pieces -/

abbrev accB : Memref sig .tc .vmem S256x256 .bf16 := Memref.whole cc0_scratch0
abbrev landB : Memref sig .tc .vmem S8x32x256 .bf16 := Memref.whole cc0_scratch1

theorem rows_inb (t : Dev nD) : ∀ a, (![32 * t.val, 0] : Fin 2 → Nat) a + S32x256.size a ≤ S256x256.size a := by
  revert t; decide
theorem slot_inb (s : Dev nD) : ∀ a, (![s.val, 0, 0] : Fin 3 → Nat) a + S1x32x256.size a ≤ S8x32x256.size a := by
  revert s; decide

/-- Rows `32 t … 32 t + 31` of the accumulator. -/
abbrev rowsR (t : Dev nD) : Rect S256x256 := Rect.unit ![32 * t.val, 0] S32x256.size (rows_inb t)
/-- Slot `s` of the landing buffer. -/
abbrev slotR (s : Dev nD) : Rect S8x32x256 := Rect.unit ![s.val, 0, 0] S1x32x256.size (slot_inb s)

/-- Block `t` of the accumulator, as a memref; -/
abbrev rowsM (t : Dev nD) : Memref sig .tc .vmem S32x256 .bf16 := accB.slice (rowsR t) (fun _ => rfl)
/-- slot `s` of the landing buffer, as a 32×256 memref. -/
abbrev slotM (s : Dev nD) : Memref sig .tc .vmem S32x256 .bf16 :=
  (landB.slice (slotR s) (fun _ => rfl)).squeeze S32x256 squeezes_S1x32x256_S32x256

theorem rows_set (t : Dev nD) : (rowsM t).view.set = (rowsR t).set := View.set_slice_whole _ _
theorem slot_set (s : Dev nD) : (slotM s).view.set = (slotR s).set := by
  exact (View.set_reshape _ _).trans (View.set_slice_whole _ _)

theorem rows_disjoint (t t' : Dev nD) (h : t ≠ t') : Disjoint (rowsM t).view.set (rowsM t').view.set := by
  rw [rows_set, rows_set]
  refine Rect.unit_disjoint (0 : Fin 2) ?_
  show 32 * t.val + 32 ≤ 32 * t'.val ∨ 32 * t'.val + 32 ≤ 32 * t.val
  have : t.val ≠ t'.val := fun e => h (Fin.ext e)
  omega
theorem slot_disjoint (s s' : Dev nD) (h : s ≠ s') : Disjoint (slotM s).view.set (slotM s').view.set := by
  rw [slot_set, slot_set]
  refine Rect.unit_disjoint (0 : Fin 3) ?_
  show s.val + 1 ≤ s'.val ∨ s'.val + 1 ≤ s.val
  have : s.val ≠ s'.val := fun e => h (Fin.ext e)
  omega

theorem rows_cover : (Finset.univ : Finset (Dev nD)).biUnion (β := S256x256.Idx) (fun t => (rowsM t).view.set) = Finset.univ := by
  ext i
  simp only [Finset.mem_biUnion, Finset.mem_univ, true_and, iff_true]
  have h0 : (i 0).val < 256 := (i 0).isLt
  have h1 : (i 1).val < 256 := (i 1).isLt
  refine ⟨⟨(i 0).val / 32, by show _ < 8; omega⟩, ?_⟩
  rw [rows_set]
  refine Rect.mem_set_unit.mpr fun a => ?_
  fin_cases a
  · show 32 * ((i 0).val / 32) ≤ (i 0).val ∧ (i 0).val < 32 * ((i 0).val / 32) + 32; omega
  · show 0 ≤ (i 1).val ∧ (i 1).val < 0 + 256; omega
theorem slot_cover : (Finset.univ : Finset (Dev nD)).biUnion (β := S8x32x256.Idx) (fun s => (slotM s).view.set) = Finset.univ := by
  ext i
  simp only [Finset.mem_biUnion, Finset.mem_univ, true_and, iff_true]
  have h0 : (i 0).val < 8 := (i 0).isLt
  have h1 : (i 1).val < 32 := (i 1).isLt
  have h2 : (i 2).val < 256 := (i 2).isLt
  refine ⟨⟨(i 0).val, h0⟩, ?_⟩
  rw [slot_set]
  refine Rect.mem_set_unit.mpr fun a => ?_
  fin_cases a
  · show (i 0).val ≤ (i 0).val ∧ (i 0).val < (i 0).val + 1; omega
  · show 0 ≤ (i 1).val ∧ (i 1).val < 0 + 32; omega
  · show 0 ≤ (i 2).val ∧ (i 2).val < 0 + 256; omega

/-! ### The program's slices are these pieces -/

theorem rowsM_of (c : Dev nD) (o : Fin 7) (h : ∀ a, k0_off4 c (BitVec.ofNat 32 (1 + o.val)) a + S32x256.size a ≤ S256x256.size a) :
    accB.slice (Rect.unit (s := S256x256) (k0_off4 c (BitVec.ofNat 32 (1 + o.val))) S32x256.size h) (fun _ => rfl) = rowsM (peer c o) :=
  Memref.slice_unit_congr _ (off4_eq c o) _ _ _ _
theorem slotM_of (c : Dev nD) (h : ∀ a, k0_off3 c a + S1x32x256.size a ≤ S8x32x256.size a) :
    (landB.slice (Rect.unit (s := S8x32x256) (k0_off3 c) S1x32x256.size h) (fun _ => rfl)).squeeze S32x256 squeezes_S1x32x256_S32x256 = slotM c := by
  rw [Memref.slice_unit_congr landB (k0_off3_eq c) h (slot_inb c) (fun _ => rfl) (fun _ => rfl)]

/-! ## The semaphores -/

/-- The runtime's barrier semaphore, -/
abbrev barS : Sem sig := (SemArray.scalar (sig.barrier 0 rfl) : Sems sig S_).sem
/-- the one the devices leave by, -/
abbrev exitS : Sem sig := cc0_scoped0.sem
/-- device `t`'s entry of the departure semaphores, -/
abbrev sendS (t : Dev nD) : DmaSem sig := ⟨5 + t.val, by have : t.val < 8 := t.isLt; show 5 + t.val < 21; omega⟩
/-- and device `s`'s of the arrival semaphores. -/
abbrev recvS (s : Dev nD) : DmaSem sig := ⟨13 + s.val, by have : s.val < 8 := s.isLt; show 13 + s.val < 21; omega⟩

theorem sendS_of : ∀ (c : Dev nD) (o : Fin 7),
    ((cc0_scratch2.slice (Rect.unit (s := S8) (k0_off1 c (BitVec.ofNat 32 (1 + o.val))) S1.size (k0_off1_inb c o))).squeeze S_ squeezes_S1_S_).sem
      = sendS (peer c o) := by decide +kernel
theorem recvS_of : ∀ (c : Dev nD) (o : Fin 7),
    ((cc0_scratch3.slice (Rect.unit (s := S8) (k0_off1 c (BitVec.ofNat 32 (1 + o.val))) S1.size (k0_off1_inb c o))).squeeze S_ squeezes_S1_S_).sem
      = recvS (peer c o) := by decide +kernel
theorem recvS_own : ∀ (c : Dev nD),
    ((cc0_scratch3.slice (Rect.unit (s := S8) (k0_off2 c) S1.size (k0_off2_inb c))).squeeze S_ squeezes_S1_S_).sem
      = recvS c := by decide +kernel

/-- A device's semaphores: by `some (some (b, t))` the departure (`b = false`) or arrival entry of device `t`; -/
abbrev OwnK : Type := Option (Bool × Dev nD)
/-- the ones the kernel owns: the leaving semaphore and the sixteen entries; -/
abbrev osem : OwnK → SemLoc sig
  | none => .reg exitS
  | some (false, t) => .dma (sendS t)
  | some (true, s) => .dma (recvS s)
/-- and all of them, the barrier semaphore (`none`) included. -/
abbrev csem : Option OwnK → SemLoc sig
  | none => .reg barS
  | some k => osem k

abbrev barCell (c : Dev nD) : GSem nD τ sig := ((c : Thread nD τ), .reg barS)
abbrev exitCell (c : Dev nD) : GSem nD τ sig := ((c : Thread nD τ), .reg exitS)
abbrev sendCell (c t : Dev nD) : GSem nD τ sig := ((c : Thread nD τ), .dma (sendS t))
abbrev recvCell (c s : Dev nD) : GSem nD τ sig := ((c : Thread nD τ), .dma (recvS s))
abbrev kcell (ck : Dev nD × Option OwnK) : GSem nD τ sig := ((ck.1 : Thread nD τ), csem ck.2)

theorem csem_injective : Function.Injective csem := by decide +kernel
theorem kcell_injective : Function.Injective kcell := by
  rintro ⟨c, k⟩ ⟨c', k'⟩ h
  have h1 : c = c' := congrArg (fun g : GSem nD τ sig => g.1.1) h
  subst h1
  have h2 : k = k' := csem_injective (congrArg Prod.snd h)
  subst h2; rfl

/-- The credit of one transferred block. -/
abbrev N : ℕ := (slotM 0).view.dmaCredit
theorem N_pos : 0 < N := View.dmaCredit_pos _ (by decide)

theorem credit_slot (s : Dev nD) : (slotM s).view.dmaCredit = N := rfl
theorem credit_rows (t : Dev nD) : (rowsM t).view.dmaCredit = N := rfl

end Cert.KernelProof

end
-- ==== Proof.Protocol.lean ====
/-
# The exchange as a schedule of payments

The kernel of one device `c`: it multiplies its tokens by its two experts into an accumulator; tells each other device,
on the barrier semaphore, that it is ready, and waits for seven such units; sends block `d` of the accumulator to device
`d`, whose arrival semaphore number `c` the copy raises (and, at home, departure semaphore number `d`); waits for the
seven arrivals and adds what they brought to its own block; waits for the seven departures; and leaves through a second
exchange of seven units.

Each semaphore is used for one round. Its duties are named by the device that pays them:

* barrier of `c`: one unit by each other device `d`, which hands `c` the slot `c` of `d`'s landing buffer;
* leaving semaphore of `c`: one unit by each other device, which hands nothing;
* departure entry `t ≠ c` of `c`: the copy's credit, handing back block `t` of the accumulator;
* arrival entry `s ≠ c` of `c`: the copy's credit, handing over slot `s` HOLDING block `c` of `s`'s accumulator.
-/
module

public import proofs.«01_k».proof.Proof.Mesh

@[expose] public section

set_option maxRecDepth 16384

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Ghost state: the pipeline library's beside the exchange's, whose duties are named by devices. -/
abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Separating conjunctions over the devices -/

omit [FloatOps F] in
theorem bigSep_others (c : Dev nD) (Φ : Dev nD → sProp 𝕄) :
    bigSep (Finset.univ.erase c) Φ = iprop(Φ (peer c 0) ∗ Φ (peer c 1) ∗ Φ (peer c 2) ∗ Φ (peer c 3) ∗ Φ (peer c 4) ∗ Φ (peer c 5) ∗ Φ (peer c 6)) := by
  rw [bigSep_eq_bigSepL_of_eq (others c) (others_eq c) (others_nodup c)]; rfl

omit [FloatOps F] in
theorem bigSep_devs (c : Dev nD) (Φ : Dev nD → sProp 𝕄) :
    bigSep Finset.univ Φ = iprop(Φ c ∗ Φ (peer c 0) ∗ Φ (peer c 1) ∗ Φ (peer c 2) ∗ Φ (peer c 3) ∗ Φ (peer c 4) ∗ Φ (peer c 5) ∗ Φ (peer c 6)) := by
  rw [bigSep_univ_at Φ c, bigSep_others]

/-! ## Contents -/

/-- The tokens, the router, the experts' numbers and the two experts' weights as device `c`'s kernel reads them. -/
def xIn (c : Dev nD) : (cc0_stg0_0 : Ref sig .tc).ty.Contents (Elt F) :=
  (win0_0.blk (0 : Fin 1)).view.read (Elt F) (m ((c : Thread nD τ).loc main_arg0))
def rtIn (c : Dev nD) : (cc0_stg1_0 : Ref sig .tc).ty.Contents (Elt F) :=
  (win0_1.blk (0 : Fin 1)).view.read (Elt F) (m ((c : Thread nD τ).loc main_arg1))
def idxIn (c : Dev nD) : (cc0_stg2_0 : Ref sig .tc).ty.Contents (Elt F) :=
  (win0_2.blk (0 : Fin 1)).view.read (Elt F) (m ((c : Thread nD τ).loc main_arg2))
def wIn (c : Dev nD) : (cc0_stg3_0 : Ref sig .tc).ty.Contents (Elt F) :=
  (win0_3.blk (0 : Fin 1)).view.read (Elt F) (m ((c : Thread nD τ).loc main_arg3))

/-- The first and the second of the two experts' weights. -/
abbrev w0R : Rect S2x128x256 := Rect.unit (s := S2x128x256) ![0, 0, 0] S1x128x256.size inb_S2x128x256_S1x128x256_0_0_0
abbrev w1R : Rect S2x128x256 := Rect.unit (s := S2x128x256) ![1, 0, 0] S1x128x256.size inb_S2x128x256_S1x128x256_1_0_0
abbrev wB : Memref sig .tc .vmem S2x128x256 .bf16 := Memref.whole cc0_stg3_0

/-- What device `c` computes into its accumulator. -/
def accVal (c : Dev nD) : (cc0_scratch0 : Ref sig .tc).ty.Contents (Elt F) :=
  k0_pay6 (k0_pay3 (xIn m c)) (k0_pay4 c (idxIn m c) (xIn m c)) (k0_pay5 c (idxIn m c))
    (wB.view.readAt (Elt F) w0R.toLoadRect (wIn m c)) (wB.view.readAt (Elt F) w1R.toLoadRect (wIn m c))

/-- Block `t` of device `s`'s accumulator. -/
def blockVal (s t : Dev nD) : S32x256.Idx → Elt F .bf16 := (rowsM t).view.read (Elt F) (accVal m s)

/-- A block added to a running sum. -/
def addBlock (a : FVec F S32x256 .f32) (b : S32x256.Idx → Elt F .bf16) : FVec F S32x256 .f32 := addf a (extf .f32 b bitsLt_bf16_f32)

/-- Device `c`'s result: its own block, then each other device's in the order it receives them. -/
def outVal (c : Dev nD) : (cc0_stg4_0 : Ref sig .tc).ty.Contents (Elt F) :=
  addBlock (addBlock (addBlock (addBlock (addBlock (addBlock (addBlock (extf .f32 (blockVal m c c) bitsLt_bf16_f32)
    (blockVal m (peer c 0) c)) (blockVal m (peer c 1) c)) (blockVal m (peer c 2) c)) (blockVal m (peer c 3) c))
    (blockVal m (peer c 4) c)) (blockVal m (peer c 5) c)) (blockVal m (peer c 6) c)

/-- Device `c`'s slot `s`, its elements at `f`'s; -/
def slotPts (c s : Dev nD) (f : Buf (Elt F) ((slotM s).view.loc (c : Thread nD τ))) : sProp 𝕄 :=
  (slotM s).view.loc (c : Thread nD τ) ↦[(slotM s).view.set]{fullShare} f
/-- at any contents; -/
def slotAny (c s : Dev nD) : sProp 𝕄 := iprop(∃ f, slotPts c s f)
/-- reading `X`. -/
def slotAt (c s : Dev nD) (X : S32x256.Idx → Elt F .bf16) : sProp 𝕄 := iprop(∃ f, ⌜(slotM s).view.read (Elt F) f = X⌝ ∗ slotPts c s f)
/-- Device `c`'s block `t` of the accumulator, at what it computed. -/
def rowsPts (c t : Dev nD) : sProp 𝕄 :=
  (rowsM t).view.loc (c : Thread nD τ) ↦[(rowsM t).view.set]{fullShare} (accVal m c : Buf (Elt F) ((rowsM t).view.loc (c : Thread nD τ)))

omit [FloatOps F] in
instance slotPts_storable (c s : Dev nD) (f) : BI.Storable (upEmb : UEmb _ 𝕄) (slotPts (F := F) c s f) := by unfold slotPts; infer_instance
omit [FloatOps F] in
instance slotAny_storable (c s : Dev nD) : BI.Storable (upEmb : UEmb _ 𝕄) (slotAny (F := F) c s) := by unfold slotAny; infer_instance
omit [FloatOps F] in
instance slotAt_storable (c s : Dev nD) (X) : BI.Storable (upEmb : UEmb _ 𝕄) (slotAt (F := F) c s X) := by unfold slotAt; infer_instance
instance rowsPts_storable (c t : Dev nD) : BI.Storable (upEmb : UEmb _ 𝕄) (rowsPts (F := F) m c t) := by unfold rowsPts; infer_instance

/-! ## The schedule -/

/-- Which of a device's semaphores a location is, if one of the exchange's. -/
def kindOf (sm : SemLoc sig) : Option (Option OwnK) := Function.partialInv csem sm
theorem kindOf_csem (k : Option OwnK) : kindOf (csem k) = some k := Function.partialInv_left csem_injective k
theorem csem_of_kindOf {sm : SemLoc sig} {k : Option OwnK} (h : kindOf sm = some k) : csem k = sm :=
  (Function.partialInv_of_injective csem_injective k sm).mp h

def dutiesAt (c : Dev nD) : Option OwnK → Finset (Dev nD)
  | some (some (_, t)) => if t = c then ∅ else {t}
  | _ => Finset.univ.erase c
def amountAt : Option OwnK → ℕ
  | some (some _) => N
  | _ => 1
def payloadAt (c : Dev nD) (d : Dev nD) : Option OwnK → sProp 𝕄
  | none => slotAny d c
  | some none => iprop(emp)
  | some (some (false, t)) => rowsPts m c t
  | some (some (true, s)) => slotAt c s (blockVal m s c)

theorem amountAt_pos (k : Option OwnK) : 0 < amountAt k := by
  rcases k with _ | _ | _ <;> first | exact Nat.one_pos | exact N_pos

instance payloadAt_storable (c d : Dev nD) (k : Option OwnK) : BI.Storable (upEmb : UEmb _ 𝕄) (payloadAt (F := F) m c d k) := by
  rcases k with _ | _ | ⟨b, t⟩
  · show BI.Storable _ (slotAny d c); infer_instance
  · show BI.Storable _ iprop(emp); infer_instance
  · cases b
    · show BI.Storable _ (rowsPts m c t); infer_instance
    · show BI.Storable _ (slotAt c t _); infer_instance

/-- One round, round 0, of every semaphore of the exchange. -/
def Rd : Rounds.Schedule (GSem nD τ sig) (Dev nD) 𝕄 where
  duties g r := if r = 0 ∧ g.1.2 = .tc then (kindOf g.2).elim ∅ (dutiesAt g.1.1) else ∅
  unitless _ := False
  amount g _ _ := (kindOf g.2).elim 1 amountAt
  payload g _ d := (kindOf g.2).elim iprop(emp) (payloadAt m g.1.1 d)
  amount_pos g _ _ _ := by
    cases kindOf g.2
    · exact Nat.one_pos
    · exact amountAt_pos _

instance Rd_payload_storable (g : GSem nD τ sig) (r : ℕ) (d : Dev nD) : BI.Storable (upEmb : UEmb _ 𝕄) ((Rd (F := F) m).payload g r d) := by
  show BI.Storable upEmb ((kindOf g.2).elim iprop(emp) (payloadAt m g.1.1 d))
  cases kindOf g.2
  · show BI.Storable _ iprop(emp); infer_instance
  · exact payloadAt_storable m _ _ _

theorem duties_eq (c : Dev nD) (k : Option OwnK) : (Rd (F := F) m).duties (kcell (c, k)) 0 = dutiesAt c k := by
  dsimp only [Rd]; rw [if_pos ⟨rfl, rfl⟩, kindOf_csem]; rfl
theorem amount_eq (c : Dev nD) (k : Option OwnK) (d : Dev nD) : (Rd (F := F) m).amount (kcell (c, k)) 0 d = amountAt k := by
  dsimp only [Rd]; rw [kindOf_csem]; rfl
theorem payload_eq (c : Dev nD) (k : Option OwnK) (d : Dev nD) : (Rd (F := F) m).payload (kcell (c, k)) 0 d = payloadAt m c d k := by
  dsimp only [Rd]; rw [kindOf_csem]; rfl
theorem duties_later (g : GSem nD τ sig) : ∀ r, 1 ≤ r → (Rd (F := F) m).duties g r = ∅ :=
  fun r hr => by dsimp only [Rd]; exact if_neg fun h => by omega
/-- A device's entry for itself is never used. -/
theorem duties_self (c : Dev nD) (b : Bool) : ∀ r, 0 ≤ r → (Rd (F := F) m).duties (kcell (c, some (some (b, c)))) r = ∅ := fun r _ => by
  rcases Nat.eq_zero_or_pos r with rfl | h
  · rw [duties_eq]; exact if_pos rfl
  · exact duties_later m _ r h

theorem dutiesAt_entry (c t : Dev nD) (b : Bool) (h : t ≠ c) : dutiesAt c (some (some (b, t))) = {t} := if_neg h

theorem expect_bar (c : Dev nD) : (Rd (F := F) m).expect (barCell c) 0 = 7 := by
  unfold Schedule.expect Schedule.amountOf
  rw [show (barCell c) = kcell (c, none) from rfl, duties_eq, Finset.sum_congr rfl fun d _ => amount_eq m c none d, Finset.sum_const, smul_eq_mul]
  show (Finset.univ.erase c).card * 1 = 7
  revert c; decide
theorem expect_exit (c : Dev nD) : (Rd (F := F) m).expect (exitCell c) 0 = 7 := by
  unfold Schedule.expect Schedule.amountOf
  rw [show (exitCell c) = kcell (c, some none) from rfl, duties_eq, Finset.sum_congr rfl fun d _ => amount_eq m c (some none) d, Finset.sum_const, smul_eq_mul]
  show (Finset.univ.erase c).card * 1 = 7
  revert c; decide
theorem expect_entry (c t : Dev nD) (b : Bool) (h : t ≠ c) : (Rd (F := F) m).expect (kcell (c, some (some (b, t)))) 0 = N := by
  unfold Schedule.expect Schedule.amountOf
  rw [duties_eq, dutiesAt_entry c t b h, Finset.sum_singleton, amount_eq]; rfl

/-- What the waits hand over: the barrier's, the other devices' slots for `c`; -/
theorem rest_bar (c : Dev nD) : bigSep ((Rd (F := F) m).duties (barCell c) 0 \ ∅) (fun d => (Rd (F := F) m).payload (barCell c) 0 d)
    = bigSep (Finset.univ.erase c) fun d => slotAny d c := by
  rw [Finset.sdiff_empty, show (barCell c) = kcell (c, none) from rfl, duties_eq]
  exact bigSep_congr fun d _ => payload_eq m c none d
/-- an entry's, the block lent out or the slot filled. -/
theorem rest_entry (c t : Dev nD) (b : Bool) (h : t ≠ c) :
    bigSep ((Rd (F := F) m).duties (kcell (c, some (some (b, t)))) 0 \ ∅) (fun d => (Rd (F := F) m).payload (kcell (c, some (some (b, t)))) 0 d)
      = payloadAt m c t (some (some (b, t))) := by
  rw [Finset.sdiff_empty, duties_eq, dutiesAt_entry c t b h, bigSep_singleton, payload_eq]

/-! ## What each device owes at launch, and the levels -/

/-- The tallies of a list on top of `b`, the list's first outermost. -/
def stack (l : List (CellTallies nD τ sig Unit)) (b : CellTallies nD τ sig Unit) : CellTallies nD τ sig Unit := l.foldr (fun t acc => acc + t) b

theorem stack_apply (l : List (CellTallies nD τ sig Unit)) (b : CellTallies nD τ sig Unit) (g : GSem nD τ sig) (u : Unit) :
    stack l b g u = (l.map fun t => t g u).sum + b g u := by
  induction l with
  | nil => show b g u = 0 + b g u; rw [Nat.zero_add]
  | cons t l ih =>
    show (stack l b + t) g u = _
    rw [Pi.add_apply, Finsupp.add_apply, ih, List.map_cons, List.sum_cons]; omega

/-- A device owes: last, a unit to each other's leaving semaphore; before, a block to each other's arrival entry; -/
def owedExit (c : Dev nD) : CellTallies nD τ sig Unit := stack ((others c).map fun d => tallyAt (exitCell d) () 1) 0
def owedSend (c : Dev nD) : CellTallies nD τ sig Unit := stack ((others c).map fun d => tallyAt (recvCell d c) () N) (owedExit c)
/-- and first, a unit to each other's barrier. -/
def owed₀ (c : Dev nD) : CellTallies nD τ sig Unit := stack ((others c).map fun d => tallyAt (barCell d) () 1) (owedSend c)

def L (g : GSem nD τ sig) : Finset Unit := if g.1.2 = .tc then {()} else ∅
/-- The levels: arrivals above the barrier, leaving above arrivals, everything else at the bottom. -/
def lvOf : Option (Option OwnK) → ℕ
  | some none => 1
  | some (some (some (true, _))) => 2
  | some (some none) => 3
  | _ => 0
def lv (g : GSem nD τ sig) (_ : Unit) : ℕ := lvOf (kindOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (k : Option OwnK) (u : Unit) : lv (kcell (c, k)) u = lvOf (some k) := by unfold lv; rw [kindOf_csem]

/-- Everything owed sits at a device's cells of level above `n`. -/
def Above (n : ℕ) (O : CellTallies nD τ sig Unit) : Prop := ∀ g u, 0 < O g u → L g = {()} ∧ n < lv g u

theorem above_zero (n : ℕ) : Above n 0 := fun _ _ h => absurd h (Nat.lt_irrefl 0)
theorem above_tally {n : ℕ} (c : Dev nD) (k : Option OwnK) (a : ℕ) (h : n < lvOf (some k)) : Above n (tallyAt (kcell (c, k)) () a) := fun g u hg => by
  rw [tallyAt_apply] at hg
  by_cases h' : g = kcell (c, k) ∧ u = ()
  · rw [h'.1]; exact ⟨L_tc _ _, by rw [lv_kcell]; exact h⟩
  · rw [if_neg h'] at hg; exact absurd hg (Nat.lt_irrefl 0)
theorem above_stack {n : ℕ} {l : List (CellTallies nD τ sig Unit)} {b : CellTallies nD τ sig Unit} (hb : Above n b) (hl : ∀ t ∈ l, Above n t) :
    Above n (stack l b) := by
  induction l with
  | nil => exact hb
  | cons t l ih =>
    intro g u hg
    rw [show stack (t :: l) b = stack l b + t from rfl, Pi.add_apply, Finsupp.add_apply] at hg
    rcases Nat.eq_zero_or_pos (t g u) with h | h
    · exact ih (fun t ht => hl t (List.mem_cons_of_mem _ ht)) g u (by omega)
    · exact hl t (List.mem_cons_self ..) g u h

theorem above_exit (c : Dev nD) : Above 2 (owedExit c) := above_stack (above_zero 2) fun t ht => by
  obtain ⟨d, -, rfl⟩ := List.mem_map.mp ht; exact above_tally d (some none) 1 (by decide)
theorem Above.mono {n n' : ℕ} {O : CellTallies nD τ sig Unit} (h : Above n O) (hn : n' ≤ n) : Above n' O := fun g u hg => ⟨(h g u hg).1, lt_of_le_of_lt hn (h g u hg).2⟩
theorem above_send (c : Dev nD) : Above 1 (owedSend c) := above_stack ((above_exit c).mono (by decide)) fun t ht => by
  obtain ⟨d, -, rfl⟩ := List.mem_map.mp ht; exact above_tally d (some (some (true, c))) N (by show 1 < 2; decide)
theorem above_owed₀ (c : Dev nD) : Above 0 (owed₀ c) := above_stack ((above_send c).mono (by decide)) fun t ht => by
  obtain ⟨d, -, rfl⟩ := List.mem_map.mp ht; exact above_tally d none 1 (by decide)

/-- A device may wait at a semaphore of level at most `n` while all it owes is above `n`. -/
theorem mayWait_above (c : Dev nD) (sm : SemLoc sig) (n : ℕ) (hn : lv ((c : Thread nD τ), sm) () ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by rw [(hO g u hg).1]; exact Finset.mem_singleton_self _)
    (fun p hp => by rw [Finset.mem_singleton.mp hp]; exact hn)
    (fun g u hg => (hO g u hg).2)

/-- A DMA semaphore that is no arrival entry is at the bottom. -/
theorem lv_dma (c : Dev nD) (q : DmaSem sig) (hq : ∀ s, SemLoc.dma (recvS s) ≠ .dma q) : lv ((c : Thread nD τ), .dma q) () = 0 := by
  unfold lv
  rcases h : kindOf (SemLoc.dma q) with _ | _ | _ | ⟨b, t⟩
  · rfl
  · exact absurd (csem_of_kindOf h) (fun h => by cases h)
  · exact absurd (csem_of_kindOf h) (fun h => by cases h)
  · cases b
    · rfl
    · exact absurd (csem_of_kindOf h) (hq t)

end Cert.KernelProof

end
-- ==== Proof.Steps.lean ====
/-
# The kernel's steps

One lemma for each kind of step of the exchange, at any device `c` and any of its seven peers: telling a peer that this
device is ready, waiting for the seven units, sending a block, waiting for an arrival or a departure, loading what came,
and leaving. The program's spelling of a device, a memref or a semaphore enters as a variable with an equation, so that
each lemma serves all of the program's statements of its kind.
-/
module

public import proofs.«01_k».proof.Proof.Protocol

@[expose] public section

set_option maxRecDepth 16384

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ) (K : Dev nD × Option OwnK → ℕ)

/-- Device `c` runs `p` to a state that meets `Q`. -/
abbrev Runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What every device knows -/

/-- Every semaphore's invariant, and that its round 0 is reached. -/
def records : sProp 𝕄 :=
  iprop((bigSep Finset.univ fun ck : Dev nD × Option OwnK => cellInv ER (Rd m) (K ck) (kcell ck))
    ∗ bigSep Finset.univ fun ck : Dev nD × Option OwnK => reached ER (kcell ck) 0)

instance records_persistent : BI.Persistent (records m K) := by unfold records; infer_instance

theorem inv_at (ck : Dev nD × Option OwnK) : records m K ⊢ cellInv ER (Rd m) (K ck) (kcell ck) := by
  unfold records
  iintro ⟨H, -⟩
  iapply (show (bigSep Finset.univ fun ck : Dev nD × Option OwnK => (cellInv ER (Rd m) (K ck) (kcell ck) : sProp 𝕄)) ⊢ cellInv ER (Rd m) (K ck) (kcell ck) from
    bigSep_elim (Finset.mem_univ ck))
  iexact H
theorem reached_at (ck : Dev nD × Option OwnK) : records m K ⊢ reached ER (kcell ck) 0 := by
  unfold records
  iintro ⟨-, H⟩
  iapply (show (bigSep Finset.univ fun ck : Dev nD × Option OwnK => (reached ER (kcell ck) 0 : sProp 𝕄)) ⊢ reached ER (kcell ck) 0 from
    bigSep_elim (Finset.mem_univ ck))
  iexact H

/-- What a device owes, whatever it has waited at so far. -/
def owing (c : Dev nD) (O : CellTallies nD τ sig Unit) : sProp 𝕄 := iprop(∃ W, owes (c : Thread nD τ) O W)

/-! ## What is owed on the way -/

/-- After `j` of the seven barrier units, of the seven blocks, of the seven leaving units. -/
def owedBarAt (c : Dev nD) (j : ℕ) : CellTallies nD τ sig Unit := stack (((others c).drop j).map fun d => tallyAt (barCell d) () 1) (owedSend c)
def owedSendAt (c : Dev nD) (j : ℕ) : CellTallies nD τ sig Unit := stack (((others c).drop j).map fun d => tallyAt (recvCell d c) () N) (owedExit c)
def owedExitAt (c : Dev nD) (j : ℕ) : CellTallies nD τ sig Unit := stack (((others c).drop j).map fun d => tallyAt (exitCell d) () 1) 0

theorem owedBarAt_next (c : Dev nD) (o : Fin 7) : owedBarAt c o.val = owedBarAt c (o.val + 1) + tallyAt (barCell (peer c o)) () 1 := by
  fin_cases o <;> rfl
theorem owedSendAt_next (c : Dev nD) (o : Fin 7) : owedSendAt c o.val = owedSendAt c (o.val + 1) + tallyAt (recvCell (peer c o) c) () N := by
  fin_cases o <;> rfl
theorem owedExitAt_next (c : Dev nD) (o : Fin 7) : owedExitAt c o.val = owedExitAt c (o.val + 1) + tallyAt (exitCell (peer c o)) () 1 := by
  fin_cases o <;> rfl

section Steps

variable (c : Dev nD)

theorem mem_others (o : Fin 7) : c ∈ Finset.univ.erase (peer c o) := Finset.mem_erase.mpr ⟨(peer_ne c o).symm, Finset.mem_univ _⟩

/-- Telling peer `o` that its slot on this device is free. -/
theorem step_ready {α : Type} {Q : α → sProp 𝕄} {k : PUnit → Prog (TpuEff nD τ sig (Elt F) Λ₀ .tc) α} (o : Fin 7) (n : Dev nD) (hn : n = peer c o) :
    iprop(records m K ∗ owing c (owedBarAt c o.val) ∗ dutyTok ER (barCell (peer c o)) 0 c ∗ slotAny c (peer c o))
      ⊢ iprop((owing c (owedBarAt c (o.val + 1)) -∗ Runs c (k ⟨⟩) Q)
          -∗ Runs c (.op (.semSignal (n : Thread nD τ) barS (1#32 : BitVec 32).toInt) k) Q) := by
  subst hn
  unfold owing
  iintro ⟨#HR, ⟨%W, HO⟩, Ht, Hs⟩ Hk
  iapply (Rounds.wp_signal 𝒱₀ ER (Rd m) (c : Thread nD τ) none (dst := (peer c o : Thread nD τ)) (κ := K (peer c o, none)) (d := c)
      (by rw [show ((peer c o : Thread nD τ), SemLoc.reg barS) = kcell (peer c o, none) from rfl, duties_eq]; exact mem_others c o)
      ((amount_eq m (peer c o) none c).trans (by decide)) () (owedBarAt c (o.val + 1)) (owedBarAt_next c o) (W := W)) $$ [HO Ht Hs]
  · isplitr; · iapply (inv_at m K (peer c o, none)); iexact HR
    isplitl [HO]; · iexact HO
    isplitl [Ht]; · iexact Ht
    isplitl [Hs]
    · rw [show ((peer c o : Thread nD τ), SemLoc.reg barS) = kcell (peer c o, none) from rfl, payload_eq]
      unfold payloadAt; iexact Hs
    iapply (reached_at m K (peer c o, none)); iexact HR
  iintro HO
  iapply Hk
  iexists W; iexact HO

/-- Waiting until all seven peers are ready: their slots for this device, and the barrier semaphore back at zero. -/
theorem step_allReady {α : Type} {Q : α → sProp 𝕄} {k : PUnit → Prog (TpuEff nD τ sig (Elt F) Λ₀ .tc) α} :
    iprop(records m K ∗ levAts L lv ∗ cred (tallyAt (barCell c) () 7) ∗ owing c (owedSend c) ∗ atPos ER (barCell c) 0 ∅ 0)
      ⊢ iprop(((owing c (owedSend c) ∗ semVal (barCell c) 0 ∗ bigSep (Finset.univ.erase c) fun d => slotAny d c) -∗ Runs c (k ⟨⟩) Q)
          -∗ Runs c (.op (.semWait barS (7#32 : BitVec 32).toInt) k) Q) := by
  unfold owing
  iintro ⟨#HR, #Hlev, Hc, ⟨%W, HO⟩, Hat⟩ Hk
  iapply (Rounds.wp_wait_rest_token 𝒱₀ ER (Rd m) (c : Thread nD τ) none (κ := K (c, none))
      (wpE_semWait_eq 𝒱₀ (c : Thread nD τ) none Set.univ) (Set.mem_univ _) () (O := owedSend c) (W := W) (R := 0) (m := 0) (T := ∅)
      (by rw [expect_bar]; decide)) $$ [Hc HO Hat]
  · isplitr; · iapply (inv_at m K (c, none)); iexact HR
    isplitl [Hc]; · iexact Hc
    isplitl [HO]; · iexact HO
    isplitr; · iapply (mayWait_above (F := F) c (.reg barS) 1 (by rw [show ((c : Thread nD τ), SemLoc.reg barS) = kcell (c, none) from rfl, lv_kcell]; decide) (above_send c)); iexact Hlev
    iexact Hat
  iintro ⟨HO, Hat, -, Hpay⟩
  imod (Rounds.cell_close ER (Rd m) (Set.mem_univ (K (c, none))) (fun h => h) (R := 0 + 1) (duties_later m (barCell c))) $$ [Hat] with Hz
  · isplitr; · iapply (inv_at m K (c, none)); iexact HR
    iexact Hat
  iapply Hk
  isplitl [HO]; · iexists _; iexact HO
  isplitl [Hz]; · iexact Hz
  iapply (Entails.of_eq (rest_bar m c)); iexact Hpay

/-- Sending block `o` of the accumulator into this device's slot at peer `o`. -/
theorem step_send {α : Type} {Q : α → sProp 𝕄} {k : PUnit → Prog (TpuEff nD τ sig (Elt F) Λ₀ .tc) α} (o : Fin 7) (n : Dev nD) (hn : n = peer c o) (src : Memref sig .tc .vmem S32x256 .bf16) (hsrc' : src = rowsM (peer c o))
    (dst : Memref sig .tc .vmem S32x256 .bf16) (hdst' : dst = slotM c) (sS sR : DmaSem sig) (hsS : sS = sendS (peer c o)) (hsR : sR = recvS c)
    {hsc : (dst : Memref sig (Dev.tc n : Thread nD τ).2.kind .vmem S32x256 .bf16).view.ref.isScScratch = false}
    {hsrc : src.view.WordExact} {hdst : dst.view.WordExact}
    {hsem : DmaTarget.Typed .vmem (.dma sR) (.remote (Dev.tc n : Thread nD τ) dst (.dma sS) hsc)} :
    iprop(records m K ∗ owing c (owedSendAt c o.val) ∗ rowsPts m c (peer c o) ∗ slotAny (peer c o) c
        ∗ dutyTok ER (sendCell c (peer c o)) 0 (peer c o) ∗ dutyTok ER (recvCell (peer c o) c) 0 c)
      ⊢ iprop(((owing c (owedSendAt c (o.val + 1)) ∗ cred (tallyAt (sendCell c (peer c o)) () N)) -∗ Runs c (k ⟨⟩) Q)
          -∗ Runs c (.op (.enqueueDma src (.remote (Dev.tc n : Thread nD τ) dst (.dma sS) hsc) (.dma sR) hsrc hdst hsem) k) Q) := by
  subst hn hsrc' hdst' hsS hsR
  unfold owing slotAny slotPts rowsPts
  iintro ⟨#HR, ⟨%W, HO⟩, Hrows, ⟨%f, Hslot⟩, HtS, HtR⟩ Hk
  iapply (Rounds.wp_send_pointsTo 𝒱₀ ER (Rd m) (c : Thread nD τ) none (κ₁ := K (c, some (some (false, peer c o)))) (κ₂ := K (peer c o, some (some (true, c))))
    (r₁ := 0) (r₂ := 0) (d₁ := peer c o) (d₂ := c) (fd := f)
    (by rw [show ((c : Thread nD τ), SemLoc.dma (sendS (peer c o))) = kcell (c, some (some (false, peer c o))) from rfl, duties_eq,
          dutiesAt_entry _ _ _ (peer_ne c o)]; exact Finset.mem_singleton_self _)
    (by rw [show ((peer c o : Thread nD τ), SemLoc.dma (recvS c)) = kcell (peer c o, some (some (true, c))) from rfl, duties_eq,
          dutiesAt_entry _ _ _ (peer_ne c o).symm]; exact Finset.mem_singleton_self _)
    () () N rfl (amount_eq m c (some (some (false, peer c o))) (peer c o)) (amount_eq m (peer c o) (some (some (true, c))) c)
    (owedSendAt c (o.val + 1)) (owedSendAt_next c o) (W := W)
    (by rw [show ((c : Thread nD τ), SemLoc.dma (sendS (peer c o))) = kcell (c, some (some (false, peer c o))) from rfl, payload_eq]
        exact BI.Entails.refl _)
    (by rw [show ((peer c o : Thread nD τ), SemLoc.dma (recvS c)) = kcell (peer c o, some (some (true, c))) from rfl, payload_eq]
        show _ ⊢ slotAt (peer c o) c (blockVal m c (peer c o))
        unfold slotAt slotPts
        iintro H
        iexists ((slotM c).view.write (Elt F) f (blockVal m c (peer c o)) Finset.univ)
        isplitr; · ipureintro; exact View.read_write_univ _ _
        iexact H)) $$ [HO Hrows Hslot HtS HtR]
  · isplitr; · iapply (inv_at m K (c, some (some (false, peer c o)))); iexact HR
    isplitr; · iapply (inv_at m K (peer c o, some (some (true, c)))); iexact HR
    isplitl [Hrows]; · iexact Hrows
    isplitl [Hslot]; · iexact Hslot
    isplitl [HO]; · iexact HO
    isplitl [HtS]; · iexact HtS
    isplitr; · iapply (reached_at m K (c, some (some (false, peer c o)))); iexact HR
    isplitl [HtR]; · iexact HtR
    iapply (reached_at m K (peer c o, some (some (true, c)))); iexact HR
  iintro ⟨Hc, HO⟩
  iapply Hk
  isplitl [HO]; · iexists W; iexact HO
  iexact Hc

/-- Waiting at entry `t` of the departures (`b = false`) or of the arrivals: the block back or the slot filled, and the
    entry's semaphore at zero. -/
theorem step_wait {α : Type} {Q : α → sProp 𝕄} {k : PUnit → Prog (TpuEff nD τ sig (Elt F) Λ₀ .tc) α} (b : Bool) (t : Dev nD) (ht : t ≠ c) {s s' : Shape} {e e' : EltTy} {sp sp' : Space} (src : Memref sig .tc sp' s' e') {κ : Kind} (dst : Memref sig κ sp s e)
    (sem : DmaSem sig) (hsem : SemLoc.dma sem = osem (some (b, t))) (hN : dst.view.dmaCredit = N) {hsrc : src.view.WordExact} {hdst : dst.view.WordExact} :
    iprop(records m K ∗ levAts L lv ∗ owing c (owedExit c) ∗ cred (tallyAt (kcell (c, some (some (b, t)))) () N) ∗ atPos ER (kcell (c, some (some (b, t)))) 0 ∅ 0)
      ⊢ iprop(((owing c (owedExit c) ∗ semVal (kcell (c, some (some (b, t)))) 0 ∗ payloadAt m c t (some (some (b, t)))) -∗ Runs c (k ⟨⟩) Q)
          -∗ Runs c (.op (.waitDma2 sem src dst hsrc hdst) k) Q) := by
  have hcell : ((c : Thread nD τ), SemLoc.dma sem) = kcell (c, some (some (b, t))) := Prod.ext rfl hsem
  unfold owing
  iintro ⟨#HR, #Hlev, ⟨%W, HO⟩, Hc, Hat⟩ Hk
  iapply (Rounds.wp_wait_rest_token 𝒱₀ ER (Rd m) (c : Thread nD τ) none (κ := K (c, some (some (b, t))))
      (wpE_waitDma2_eq 𝒱₀ (c : Thread nD τ) none Set.univ) (Set.mem_univ _) () (O := owedExit c) (W := W) (R := 0) (m := 0) (T := ∅)
      (by rw [hcell, expect_entry m c t b ht, hN, Nat.zero_add])) $$ [Hc HO Hat]
  · rw [hcell, hN]
    isplitr; · iapply (inv_at m K (c, some (some (b, t)))); iexact HR
    isplitl [Hc]; · iexact Hc
    isplitl [HO]; · iexact HO
    isplitr
    · iapply (mayWait_above (F := F) c (.dma sem) 2 (by rw [hcell, lv_kcell]; cases b; exacts [Nat.zero_le _, le_refl _]) (above_exit c)); iexact Hlev
    iexact Hat
  rw [hcell]
  iintro ⟨HO, Hat, -, Hpay⟩
  imod (Rounds.cell_close ER (Rd m) (Set.mem_univ (K (c, some (some (b, t))))) (fun h => h) (R := 0 + 1) (duties_later m (kcell (c, some (some (b, t)))))) $$ [Hat] with Hz
  · isplitr; · iapply (inv_at m K (c, some (some (b, t)))); iexact HR
    iexact Hat
  iapply Hk
  isplitl [HO]; · iexists _; iexact HO
  isplitl [Hz]; · iexact Hz
  iapply (Entails.of_eq (rest_entry m c t b ht)); iexact Hpay

/-- Telling peer `o` that this device is done. -/
theorem step_leave {α : Type} {Q : α → sProp 𝕄} {k : PUnit → Prog (TpuEff nD τ sig (Elt F) Λ₀ .tc) α} (o : Fin 7) (n : Dev nD) (hn : n = peer c o) :
    iprop(records m K ∗ owing c (owedExitAt c o.val) ∗ dutyTok ER (exitCell (peer c o)) 0 c)
      ⊢ iprop((owing c (owedExitAt c (o.val + 1)) -∗ Runs c (k ⟨⟩) Q)
          -∗ Runs c (.op (.semSignal (n : Thread nD τ) exitS (1#32 : BitVec 32).toInt) k) Q) := by
  subst hn
  unfold owing
  iintro ⟨#HR, ⟨%W, HO⟩, Ht⟩ Hk
  iapply (Rounds.wp_signal 𝒱₀ ER (Rd m) (c : Thread nD τ) none (dst := (peer c o : Thread nD τ)) (κ := K (peer c o, some none)) (d := c)
      (by rw [show ((peer c o : Thread nD τ), SemLoc.reg exitS) = kcell (peer c o, some none) from rfl, duties_eq]; exact mem_others c o)
      ((amount_eq m (peer c o) (some none) c).trans (by decide)) () (owedExitAt c (o.val + 1)) (owedExitAt_next c o) (W := W)) $$ [HO Ht]
  · isplitr; · iapply (inv_at m K (peer c o, some none)); iexact HR
    isplitl [HO]; · iexact HO
    isplitl [Ht]; · iexact Ht
    isplitr
    · rw [show ((peer c o : Thread nD τ), SemLoc.reg exitS) = kcell (peer c o, some none) from rfl, payload_eq]
      unfold payloadAt; iempintro
    iapply (reached_at m K (peer c o, some none)); iexact HR
  iintro HO
  iapply Hk
  iexists W; iexact HO

/-- Waiting until all seven peers are done: the leaving semaphore back at zero. -/
theorem step_allDone {α : Type} {Q : α → sProp 𝕄} {k : PUnit → Prog (TpuEff nD τ sig (Elt F) Λ₀ .tc) α} :
    iprop(records m K ∗ cred (tallyAt (exitCell c) () 7) ∗ owing c 0 ∗ atPos ER (exitCell c) 0 ∅ 0)
      ⊢ iprop(((owing c 0 ∗ semVal (exitCell c) 0) -∗ Runs c (k ⟨⟩) Q)
          -∗ Runs c (.op (.semWait exitS (7#32 : BitVec 32).toInt) k) Q) := by
  unfold owing
  iintro ⟨#HR, Hc, ⟨%W, HO⟩, Hat⟩ Hk
  iapply (Rounds.wp_wait_rest_token 𝒱₀ ER (Rd m) (c : Thread nD τ) none (κ := K (c, some none))
      (wpE_semWait_eq 𝒱₀ (c : Thread nD τ) none Set.univ) (Set.mem_univ _) () (O := 0) (W := W) (R := 0) (m := 0) (T := ∅)
      (by rw [expect_exit]; decide)) $$ [Hc HO Hat]
  · isplitr; · iapply (inv_at m K (c, some none)); iexact HR
    isplitl [Hc]; · iexact Hc
    isplitl [HO]; · iexact HO
    isplitr; · rw [MayWait_zero]; iempintro
    iexact Hat
  iintro ⟨HO, Hat, -, -⟩
  imod (Rounds.cell_close ER (Rd m) (Set.mem_univ (K (c, some none))) (fun h => h) (R := 0 + 1) (duties_later m (exitCell c))) $$ [Hat] with Hz
  · isplitr; · iapply (inv_at m K (c, some none)); iexact HR
    iexact Hat
  iapply Hk
  isplitl [HO]; · iexists _; iexact HO
  iexact Hz

end Steps

section Loads

variable (c : Dev nD)

/-- Loading this device's own block of the accumulator. -/
theorem step_own {α : Type} {Q : α → sProp 𝕄} (r : Rect S256x256) (hr : r = rowsR c) {hl : accB.view.LoadsAt r.toLoadRect}
    {k : (r.shape.Idx → Elt F .bf16) → Prog (TpuEff nD τ sig (Elt F) Λ₀ .tc) α} :
    rowsPts m c c ⊢ iprop((rowsPts m c c -∗ Runs c (k (accB.view.readAt (Elt F) r.toLoadRect (accVal m c))) Q) -∗ Runs c (.op (.load accB r.toLoadRect hl) k) Q) := by
  subst hr
  unfold rowsPts
  exact wp_load_rect 𝒱₀ (c : Thread nD τ) none Set.univ (m := accB) (r := rowsR c) (Finset.Subset.refl _)

/-- What a slot that reads `X` gives to a load of it: `X` with a leading axis of extent one. -/
abbrev asSlot (X : S32x256.Idx → Elt F .bf16) : S1x32x256.Idx → Elt F .bf16 := shapeCast S1x32x256 X (by decide)

/-- Loading a slot that is known to hold `X`. -/
theorem step_slot {α : Type} {Q : α → sProp 𝕄} (s : Dev nD) (X : S32x256.Idx → Elt F .bf16) (off : Fin 3 → ℕ) (hoff : off = ![s.val, 0, 0])
    (h : ∀ a, off a + S1x32x256.size a ≤ S8x32x256.size a) {hl : landB.view.LoadsAt (Rect.unit (s := S8x32x256) off S1x32x256.size h).toLoadRect}
    {k : (S1x32x256.Idx → Elt F .bf16) → Prog (TpuEff nD τ sig (Elt F) Λ₀ .tc) α} :
    slotAt c s X ⊢ iprop((slotAt c s X -∗ Runs c (k (asSlot X)) Q)
      -∗ Runs c (.op (.load landB (Rect.unit (s := S8x32x256) off S1x32x256.size h).toLoadRect hl) k) Q) := by
  subst hoff
  unfold slotAt slotPts
  iintro ⟨%f, %hf, H⟩ Hk
  have hX : (landB.access (slotR s)).read (Elt F) f = asSlot X := by
    rw [← hf]; funext j
    exact congrArg ((landB.access (slotR s)).read (Elt F) f) (((Shape.reshapeEquiv_reshapeEquiv (s := S1x32x256) (s' := S32x256) (s'' := S1x32x256) (by decide) (by decide) j).trans (Shape.reshapeEquiv_self _ j)).symm)
  iapply (wp_load_rect 𝒱₀ (c : Thread nD τ) none Set.univ (m := landB) (r := slotR s) (S := (slotM s).view.set) (f := f)
    (by rw [slot_set]; exact (View.set_slice_whole _ _).le)) $$ [H]
  · iexact H
  iintro H
  rw [hX]
  iapply Hk
  iexists f
  isplitr; · ipureintro; exact hf
  iexact H

end Loads

end Cert.KernelProof

end
-- ==== Proof.Phases.lean ====
/-
# The kernel's phases

Each phase of the kernel does one thing with the seven peers in turn. Its state is what is owed, what the peers still to
come need (`rest`) and what the ones already served have left (`past`); a step moves one peer from the first to the
second.
-/
module

public import proofs.«01_k».proof.Proof.Steps

@[expose] public section

set_option maxRecDepth 16384

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option OwnK → ℕ) (c : Dev nD)

/-! ## Peers to come and peers served -/

/-- `Φ` of every peer from the `j`-th on; -/
def rest (j : ℕ) (Φ : Dev nD → sProp 𝕄) : sProp 𝕄 := ((others c).drop j).foldr (fun d P => iprop(Φ d ∗ P)) iprop(emp)
/-- of every peer before the `j`-th. -/
def past (j : ℕ) (Φ : Dev nD → sProp 𝕄) : sProp 𝕄 := ((others c).take j).foldl (fun P d => iprop(P ∗ Φ d)) iprop(emp)

omit [FloatOps F] in
theorem rest_next (o : Fin 7) (Φ : Dev nD → sProp 𝕄) : rest c o.val Φ = iprop(Φ (peer c o) ∗ rest c (o.val + 1) Φ) := by fin_cases o <;> rfl
omit [FloatOps F] in
theorem past_next (o : Fin 7) (Φ : Dev nD → sProp 𝕄) : past c (o.val + 1) Φ = iprop(past c o.val Φ ∗ Φ (peer c o)) := by fin_cases o <;> rfl

omit [FloatOps F] in
/-- At first all are to come; -/
theorem rest_zero (Φ : Dev nD → sProp 𝕄) : bigSep (Finset.univ.erase c) Φ ⊢ rest c 0 Φ := by
  rw [bigSep_others]
  show _ ⊢ iprop(Φ (peer c 0) ∗ Φ (peer c 1) ∗ Φ (peer c 2) ∗ Φ (peer c 3) ∗ Φ (peer c 4) ∗ Φ (peer c 5) ∗ Φ (peer c 6) ∗ emp)
  iintro ⟨H0, H1, H2, H3, H4, H5, H6⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iempintro
omit [FloatOps F] in
/-- none served; -/
theorem past_zero (Φ : Dev nD → sProp 𝕄) : iprop(emp) ⊢ past c 0 Φ := BI.Entails.refl _
omit [FloatOps F] in
/-- in the end all are served. -/
theorem past_all (Φ : Dev nD → sProp 𝕄) : past c 7 Φ ⊢ bigSep (Finset.univ.erase c) Φ := by
  rw [bigSep_others]
  show iprop(((((((emp ∗ Φ (peer c 0)) ∗ Φ (peer c 1)) ∗ Φ (peer c 2)) ∗ Φ (peer c 3)) ∗ Φ (peer c 4)) ∗ Φ (peer c 5)) ∗ Φ (peer c 6)) ⊢ _
  iintro ⟨⟨⟨⟨⟨⟨⟨-, H0⟩, H1⟩, H2⟩, H3⟩, H4⟩, H5⟩, H6⟩
  isplitl [H0]; · iexact H0
  isplitl [H1]; · iexact H1
  isplitl [H2]; · iexact H2
  isplitl [H3]; · iexact H3
  isplitl [H4]; · iexact H4
  isplitl [H5]; · iexact H5
  iexact H6

/-! ## The buffers, cut and joined -/

/-- The accumulator is its eight blocks; -/
theorem acc_blocks : (((c : Thread nD τ).loc cc0_scratch0) ↦{fullShare} (accVal m c : Buf (Elt F) ((c : Thread nD τ).loc cc0_scratch0)) : sProp 𝕄)
    = bigSep Finset.univ fun t => rowsPts m c t :=
  Ring.pointsTo_blocks (ℓ := (c : Thread nD τ).loc cc0_scratch0) (fun t : Dev nD => (rowsM t).view.set) rows_disjoint rows_cover (accVal m c)
omit [FloatOps F] in
theorem slot_any (s : Dev nD) (f : Buf (Elt F) ((slotM s).view.loc (c : Thread nD τ))) : slotPts c s f ⊢ slotAny c s := by
  unfold slotAny
  iintro H; iexists f; iexact H
omit [FloatOps F] in
/-- the landing buffer its eight slots, -/
theorem land_slots (f : Buf (Elt F) ((c : Thread nD τ).loc cc0_scratch1)) :
    (((c : Thread nD τ).loc cc0_scratch1) ↦{fullShare} f : sProp 𝕄) ⊢ bigSep Finset.univ fun s => slotAny c s := by
  rw [Ring.pointsTo_blocks (ℓ := (c : Thread nD τ).loc cc0_scratch1) (fun s : Dev nD => (slotM s).view.set) slot_disjoint slot_cover f]
  exact bigSep_mono fun s _ => slot_any c s f
omit [FloatOps F] in
/-- from which it is put together again. -/
theorem land_join (f : Buf (Elt F) ((c : Thread nD τ).loc cc0_scratch1)) :
    (bigSep Finset.univ fun s => slotAny (F := F) c s) ⊢ (iprop(∃ g, ((c : Thread nD τ).loc cc0_scratch1) ↦{fullShare} g) : sProp 𝕄) :=
  Ring.pointsTo_blocks_join_exists (ℓ := (c : Thread nD τ).loc cc0_scratch1) (fun s : Dev nD => (slotM s).view.set) slot_disjoint slot_cover f

omit [FloatOps F] in
theorem slotAt_any (s : Dev nD) (X : S32x256.Idx → Elt F .bf16) : slotAt (F := F) c s X ⊢ slotAny c s := by
  unfold slotAt slotAny
  iintro ⟨%f, -, H⟩; iexists f; iexact H

/-! ## The phases' states -/

/-- Telling the peers this device is ready. -/
def readying (j : ℕ) : sProp 𝕄 :=
  iprop(owing c (owedBarAt c j) ∗ rest c j fun d => iprop(dutyTok ER (barCell d) 0 c ∗ slotAny c d))
/-- Sending the blocks. -/
def sending (j : ℕ) : sProp 𝕄 :=
  iprop(owing c (owedSendAt c j)
    ∗ (rest c j fun d => iprop(rowsPts m c d ∗ slotAny d c ∗ dutyTok ER (sendCell c d) 0 d ∗ dutyTok ER (recvCell d c) 0 c))
    ∗ past c j fun d => cred (tallyAt (sendCell c d) () N))
/-- Receiving the peers' blocks. -/
def arriving (j : ℕ) : sProp 𝕄 :=
  iprop(owing c (owedExit c)
    ∗ (rest c j fun s => iprop(cred (tallyAt (recvCell c s) () N) ∗ atPos ER (recvCell c s) 0 ∅ 0))
    ∗ past c j fun s => iprop(semVal (recvCell c s) 0 ∗ slotAt c s (blockVal m s c)))
/-- Getting the sent blocks back. -/
def departing (j : ℕ) : sProp 𝕄 :=
  iprop(owing c (owedExit c)
    ∗ (rest c j fun d => iprop(cred (tallyAt (sendCell c d) () N) ∗ atPos ER (sendCell c d) 0 ∅ 0))
    ∗ past c j fun d => iprop(semVal (sendCell c d) 0 ∗ rowsPts m c d))
/-- Telling the peers this device is done. -/
def leaving (j : ℕ) : sProp 𝕄 := iprop(owing c (owedExitAt c j) ∗ rest c j fun d => dutyTok ER (exitCell d) 0 c)

/-! ## The steps, phase by phase -/

theorem go_ready {α : Type} {Q : α → sProp 𝕄} {k : PUnit → Prog (TpuEff nD τ sig (Elt F) Λ₀ .tc) α} (o : Fin 7) (n : Dev nD) (hn : n = peer c o) :
    iprop(records m K ∗ readying c o.val)
      ⊢ iprop((readying c (o.val + 1) -∗ Runs c (k ⟨⟩) Q) -∗ Runs c (.op (.semSignal (n : Thread nD τ) barS (1#32 : BitVec 32).toInt) k) Q) := by
  unfold readying
  rw [rest_next]
  iintro ⟨#HR, HO, ⟨Ht, Hs⟩, Hrest⟩ Hk
  iapply (step_ready m K c o n hn) $$ [HO Ht Hs]
  · isplitr; · iexact HR
    isplitl [HO]; · iexact HO
    isplitl [Ht] <;> iassumption
  iintro HO
  iapply Hk
  isplitl [HO] <;> iassumption

theorem go_send {α : Type} {Q : α → sProp 𝕄} {k : PUnit → Prog (TpuEff nD τ sig (Elt F) Λ₀ .tc) α} (o : Fin 7) (n : Dev nD) (hn : n = peer c o)
    (src : Memref sig .tc .vmem S32x256 .bf16) (hsrc' : src = rowsM (peer c o))
    (dst : Memref sig .tc .vmem S32x256 .bf16) (hdst' : dst = slotM c) (sS sR : DmaSem sig) (hsS : sS = sendS (peer c o)) (hsR : sR = recvS c)
    {hsc : (dst : Memref sig (Dev.tc n : Thread nD τ).2.kind .vmem S32x256 .bf16).view.ref.isScScratch = false}
    {hsrc : src.view.WordExact} {hdst : dst.view.WordExact}
    {hsem : DmaTarget.Typed .vmem (.dma sR) (.remote (Dev.tc n : Thread nD τ) dst (.dma sS) hsc)} :
    iprop(records m K ∗ sending m c o.val)
      ⊢ iprop((sending m c (o.val + 1) -∗ Runs c (k ⟨⟩) Q)
          -∗ Runs c (.op (.enqueueDma src (.remote (Dev.tc n : Thread nD τ) dst (.dma sS) hsc) (.dma sR) hsrc hdst hsem) k) Q) := by
  unfold sending
  rw [rest_next, past_next]
  iintro ⟨#HR, HO, ⟨⟨Hrows, Hslot, HtS, HtR⟩, Hrest⟩, Hpast⟩ Hk
  iapply (step_send m K c o n hn src hsrc' dst hdst' sS sR hsS hsR) $$ [HO Hrows Hslot HtS HtR]
  · isplitr; · iexact HR
    isplitl [HO]; · iexact HO
    isplitl [Hrows]; · iexact Hrows
    isplitl [Hslot]; · iexact Hslot
    isplitl [HtS] <;> iassumption
  iintro ⟨HO, Hc⟩
  iapply Hk
  isplitl [HO]; · iexact HO
  isplitl [Hrest]; · iexact Hrest
  isplitl [Hpast] <;> iassumption

theorem go_arrive {α : Type} {Q : α → sProp 𝕄} {k : PUnit → Prog (TpuEff nD τ sig (Elt F) Λ₀ .tc) α} (o : Fin 7)
    (src dst : Memref sig .tc .vmem S32x256 .bf16) (sem : DmaSem sig) (hsem : sem = recvS (peer c o)) (hN : dst.view.dmaCredit = N)
    {hsrc : src.view.WordExact} {hdst : dst.view.WordExact} :
    iprop(records m K ∗ levAts L lv ∗ arriving m c o.val)
      ⊢ iprop((arriving m c (o.val + 1) -∗ Runs c (k ⟨⟩) Q) -∗ Runs c (.op (.waitDma2 sem src dst hsrc hdst) k) Q) := by
  unfold arriving
  rw [rest_next, past_next]
  iintro ⟨#HR, #Hlev, HO, ⟨⟨Hc, Hat⟩, Hrest⟩, Hpast⟩ Hk
  iapply (step_wait m K c true (peer c o) (peer_ne c o) src dst sem (congrArg SemLoc.dma hsem) hN) $$ [HO Hc Hat]
  · isplitr; · iexact HR
    isplitr; · iexact Hlev
    isplitl [HO]; · iexact HO
    isplitl [Hc] <;> iassumption
  iintro ⟨HO, Hz, Hslot⟩
  unfold payloadAt
  iapply Hk
  isplitl [HO]; · iexact HO
  isplitl [Hrest]; · iexact Hrest
  isplitl [Hpast]; · iexact Hpast
  isplitl [Hz] <;> iassumption

/-- Loading the slot that has just arrived. -/
theorem go_load {α : Type} {Q : α → sProp 𝕄} (o : Fin 7) (off : Fin 3 → ℕ) (hoff : off = ![(peer c o).val, 0, 0])
    {h : ∀ a, off a + S1x32x256.size a ≤ S8x32x256.size a} {hl : landB.view.LoadsAt (Rect.unit (s := S8x32x256) off S1x32x256.size h).toLoadRect}
    {k : (S1x32x256.Idx → Elt F .bf16) → Prog (TpuEff nD τ sig (Elt F) Λ₀ .tc) α} :
    arriving m c (o.val + 1)
      ⊢ iprop((arriving m c (o.val + 1) -∗ Runs c (k (asSlot (blockVal m (peer c o) c))) Q)
          -∗ Runs c (.op (.load landB (Rect.unit (s := S8x32x256) off S1x32x256.size h).toLoadRect hl) k) Q) := by
  unfold arriving
  rw [past_next]
  iintro ⟨HO, Hrest, Hpast, Hz, Hslot⟩ Hk
  iapply (step_slot c (peer c o) (blockVal m (peer c o) c) off hoff h) $$ [Hslot]
  · iexact Hslot
  iintro Hslot
  iapply Hk
  isplitl [HO]; · iexact HO
  isplitl [Hrest]; · iexact Hrest
  isplitl [Hpast]; · iexact Hpast
  isplitl [Hz] <;> iassumption

theorem go_depart {α : Type} {Q : α → sProp 𝕄} {k : PUnit → Prog (TpuEff nD τ sig (Elt F) Λ₀ .tc) α} (o : Fin 7)
    (src dst : Memref sig .tc .vmem S32x256 .bf16) (sem : DmaSem sig) (hsem : sem = sendS (peer c o)) (hN : dst.view.dmaCredit = N)
    {hsrc : src.view.WordExact} {hdst : dst.view.WordExact} :
    iprop(records m K ∗ levAts L lv ∗ departing m c o.val)
      ⊢ iprop((departing m c (o.val + 1) -∗ Runs c (k ⟨⟩) Q) -∗ Runs c (.op (.waitDma2 sem src dst hsrc hdst) k) Q) := by
  unfold departing
  rw [rest_next, past_next]
  iintro ⟨#HR, #Hlev, HO, ⟨⟨Hc, Hat⟩, Hrest⟩, Hpast⟩ Hk
  iapply (step_wait m K c false (peer c o) (peer_ne c o) src dst sem (congrArg SemLoc.dma hsem) hN) $$ [HO Hc Hat]
  · isplitr; · iexact HR
    isplitr; · iexact Hlev
    isplitl [HO]; · iexact HO
    isplitl [Hc] <;> iassumption
  iintro ⟨HO, Hz, Hrows⟩
  unfold payloadAt
  iapply Hk
  isplitl [HO]; · iexact HO
  isplitl [Hrest]; · iexact Hrest
  isplitl [Hpast]; · iexact Hpast
  isplitl [Hz] <;> iassumption

theorem go_leave {α : Type} {Q : α → sProp 𝕄} {k : PUnit → Prog (TpuEff nD τ sig (Elt F) Λ₀ .tc) α} (o : Fin 7) (n : Dev nD) (hn : n = peer c o) :
    iprop(records m K ∗ leaving c o.val)
      ⊢ iprop((leaving c (o.val + 1) -∗ Runs c (k ⟨⟩) Q) -∗ Runs c (.op (.semSignal (n : Thread nD τ) exitS (1#32 : BitVec 32).toInt) k) Q) := by
  unfold leaving
  rw [rest_next]
  iintro ⟨#HR, HO, Ht, Hrest⟩ Hk
  iapply (step_leave m K c o n hn) $$ [HO Ht]
  · isplitr; · iexact HR
    isplitl [HO] <;> iassumption
  iintro HO
  iapply Hk
  isplitl [HO] <;> iassumption

end Cert.KernelProof

end
-- ==== Proof.Body.lean ====
/-
# The kernel's body

The proof data of the one grid point (what the staging buffers hold before and after, what is owed), and the body run
once, at a symbolic device, from its start to its end.
-/
module

public import proofs.«01_k».proof.Proof.Phases

@[expose] public section

set_option maxRecDepth 16384

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the body starts from and ends with -/

/-- The records, this device's positions at its own semaphores, and the duty tokens it pays with. -/
def ghost (K : Dev nD × Option OwnK → ℕ) (c : Dev nD) : sProp 𝕄 :=
  iprop(records m K ∗ atPos ER (barCell c) 0 ∅ 0 ∗ atPos ER (exitCell c) 0 ∅ 0
    ∗ (bigSep Finset.univ fun t => atPos ER (sendCell c t) 0 ∅ 0) ∗ (bigSep Finset.univ fun s => atPos ER (recvCell c s) 0 ∅ 0)
    ∗ (bigSep Finset.univ fun d => dutyTok ER (barCell d) 0 c) ∗ (bigSep Finset.univ fun d => dutyTok ER (exitCell d) 0 c)
    ∗ (bigSep Finset.univ fun d => dutyTok ER (sendCell c d) 0 d) ∗ bigSep Finset.univ fun d => dutyTok ER (recvCell d c) 0 c)

/-- The units the others will bring. -/
def credits (c : Dev nD) : sProp 𝕄 :=
  iprop(cred (tallyAt (barCell c) () 7) ∗ cred (tallyAt (exitCell c) () 7) ∗ bigSep (Finset.univ.erase c) fun s => cred (tallyAt (recvCell c s) () N))

def start (c : Dev nD) : sProp 𝕄 := iprop((∃ K, ghost m K c) ∗ credits c ∗ levAts L lv)

/-- The two scratch buffers at any contents. -/
def scratch (c : Dev nD) : sProp 𝕄 :=
  iprop((∃ f, ((c : Thread nD τ).loc cc0_scratch0) ↦{fullShare} f) ∗ ∃ f, ((c : Thread nD τ).loc cc0_scratch1) ↦{fullShare} f)

/-- Every counter of this device at zero. -/
def atZero (c : Dev nD) : sProp 𝕄 :=
  iprop(semVal (barCell c) 0 ∗ semVal (exitCell c) 0
    ∗ (bigSep Finset.univ fun t => semVal (sendCell c t) 0) ∗ bigSep Finset.univ fun s => semVal (recvCell c s) 0)

def Φ₀ (c : Dev nD) : sProp 𝕄 := iprop(start m c ∗ scratch c)
def Φ₁ (c : Dev nD) : sProp 𝕄 := iprop(scratch c ∗ atZero c)

/-- The proof data: the arrays as launched, each input block left in place, the output block at the result. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m c
    | ⟨1, _⟩ => rtIn m c
    | ⟨2, _⟩ => idxIn m c
    | ⟨3, _⟩ => wIn m c
    | ⟨4, _⟩ => outVal m c
  Φ t := match t with
    | ⟨0, _⟩ => Φ₀ m c
    | ⟨_ + 1, _⟩ => Φ₁ c
  q _ := fullShare
  owed t := match t with
    | ⟨0, _⟩ => owed₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-! ## Small facts the run reads -/

abbrev accR : Rect S256x256 := Rect.unit (s := S256x256) ![0, 0] S256x256.size inb_S256x256_S256x256_0_0
abbrev outR : Rect S32x256 := Rect.unit (s := S32x256) ![0, 0] S32x256.size inb_S32x256_S32x256_0_0

theorem zeros2 : (![0, 0] : Fin 2 → ℕ) = fun _ => 0 := funext fun a => by fin_cases a <;> rfl

omit [FloatOps F] in
/-- A buffer loaded whole is what it holds, -/
theorem read_idx (f : (cc0_stg2_0 : Ref sig .tc).ty.Contents (Elt F)) :
    (Memref.whole cc0_stg2_0 : Memref sig .tc .vmem S256x1 .i32).view.readAt (Elt F)
      (Rect.unit (s := S256x1) ![0, 0] S256x1.size inb_S256x1_S256x1_0_0).toLoadRect f = f :=
  Memref.readAt_unit_zero (Elt F) cc0_stg2_0 zeros2 _ f
omit [FloatOps F] in
theorem read_x (f : (cc0_stg0_0 : Ref sig .tc).ty.Contents (Elt F)) :
    (Memref.whole cc0_stg0_0 : Memref sig .tc .vmem S256x128 .bf16).view.readAt (Elt F)
      (Rect.unit (s := S256x128) ![0, 0] S256x128.size inb_S256x128_S256x128_0_0).toLoadRect f = f :=
  Memref.readAt_unit_zero (Elt F) cc0_stg0_0 zeros2 _ f
omit [FloatOps F] in
/-- and stored whole is what is stored. -/
theorem write_acc (f w : (cc0_scratch0 : Ref sig .tc).ty.Contents (Elt F)) :
    (accB.access accR : View sig .tc _ _ _).write (Elt F) f w Finset.univ = w :=
  Memref.write_access_unit_zero_univ (Elt F) cc0_scratch0 zeros2 _ f w
omit [FloatOps F] in
theorem write_out (f w : (cc0_stg4_0 : Ref sig .tc).ty.Contents (Elt F)) :
    ((Memref.whole cc0_stg4_0 : Memref sig .tc .vmem S32x256 .f32).access outR : View sig .tc _ _ _).write (Elt F) f w Finset.univ = w :=
  Memref.write_access_unit_zero_univ (Elt F) cc0_stg4_0 zeros2 _ f w

omit [FloatOps F] in
/-- A slot's load, its leading axis dropped, is what the slot held. -/
theorem ofSlot (X : S32x256.Idx → Elt F .bf16) : shapeCast S32x256 (asSlot X) shapeCasts_S1x32x256_S32x256 = X := by
  funext j
  exact congrArg X ((Shape.reshapeEquiv_reshapeEquiv _ _ j).trans (Shape.reshapeEquiv_self _ j))

/-- The sum the kernel forms, block by block. -/
theorem sum_eq (a : S32x256.Idx → Elt F .bf16) (b : Fin 7 → S32x256.Idx → Elt F .bf16) :
    k0_pay11 (k0_pay10 (k0_pay9 (k0_pay8 (k0_pay7 a) (asSlot (b 0)) (asSlot (b 1))) (asSlot (b 2))) (asSlot (b 3)) (asSlot (b 4))) (asSlot (b 5)) (asSlot (b 6))
      = addBlock (addBlock (addBlock (addBlock (addBlock (addBlock (addBlock (extf .f32 a bitsLt_bf16_f32) (b 0)) (b 1)) (b 2)) (b 3)) (b 4)) (b 5)) (b 6) := by
  unfold k0_pay11 k0_pay10 k0_pay9 k0_pay8 k0_pay7 addBlock
  iterate 7 refine congrArg₂ addf ?_ (congrArg (fun z => extf .f32 z bitsLt_bf16_f32) (ofSlot _))
  rfl

/-- This device's own block starts at row 32·c. -/
theorem off5_eq (c : Dev nD) : k0_off5 c = ![32 * c.val, 0] := by
  revert c; decide

/-- What an arrival and a departure count: the units of one block. -/
theorem wait_slot (c : Dev nD) (o : Fin 7) (h : ∀ a, k0_off6 c (BitVec.ofNat 32 (1 + o.val)) a + S1x32x256.size a ≤ S8x32x256.size a) :
    ((landB.slice (Rect.unit (s := S8x32x256) (k0_off6 c (BitVec.ofNat 32 (1 + o.val))) S1x32x256.size h) (fun _ => rfl)).squeeze S32x256
      squeezes_S1x32x256_S32x256).view.dmaCredit = N := rfl
theorem wait_rows (c : Dev nD) (o : Fin 7) (h : ∀ a, k0_off4 c (BitVec.ofNat 32 (1 + o.val)) a + S32x256.size a ≤ S256x256.size a) :
    (accB.slice (Rect.unit (s := S256x256) (k0_off4 c (BitVec.ofNat 32 (1 + o.val))) S32x256.size h) (fun _ => rfl)).view.dmaCredit = N := rfl

theorem own_rect (c : Dev nD) (h : ∀ a, k0_off5 c a + S32x256.size a ≤ S256x256.size a) : Rect.unit (s := S256x256) (k0_off5 c) S32x256.size h = rowsR c :=
  Rect.unit_congr (off5_eq c) _ _
theorem own_val (c : Dev nD) (off : Fin 2 → ℕ) (hoff : off = ![32 * c.val, 0]) {h : ∀ a, off a + S32x256.size a ≤ S256x256.size a} :
    accB.view.readAt (Elt F) (Rect.unit (s := S256x256) off S32x256.size h).toLoadRect (accVal m c) = blockVal m c c := by
  subst hoff; rfl

/-- What the kernel stores is the result. -/
theorem result_eq (c : Dev nD) :
    k0_pay11 (k0_pay10 (k0_pay9 (k0_pay8 (k0_pay7 (blockVal m c c)) (asSlot (blockVal m (peer c 0) c)) (asSlot (blockVal m (peer c 1) c)))
        (asSlot (blockVal m (peer c 2) c))) (asSlot (blockVal m (peer c 3) c)) (asSlot (blockVal m (peer c 4) c)))
      (asSlot (blockVal m (peer c 5) c)) (asSlot (blockVal m (peer c 6) c)) = outVal m c :=
  sum_eq (blockVal m c c) fun o => blockVal m (peer c o) c

omit [FloatOps F] in
/-- One device's share of a family apart from the others'; -/
theorem apart (c : Dev nD) (Φ : Dev nD → sProp 𝕄) : bigSep Finset.univ Φ ⊢ iprop(Φ c ∗ bigSep (Finset.univ.erase c) Φ) := Entails.of_eq (bigSep_univ_at Φ c)
omit [FloatOps F] in
/-- put back; -/
theorem together (c : Dev nD) (Φ : Dev nD → sProp 𝕄) : iprop(Φ c ∗ bigSep (Finset.univ.erase c) Φ) ⊢ bigSep Finset.univ Φ := Entails.of_eq (bigSep_univ_at Φ c).symm
omit [FloatOps F] in
/-- two families as one. -/
theorem both (s : Finset (Dev nD)) (Φ Ψ : Dev nD → sProp 𝕄) : iprop(bigSep s Φ ∗ bigSep s Ψ) ⊢ bigSep s fun d => iprop(Φ d ∗ Ψ d) := Entails.of_eq (bigSep_sep s Φ Ψ).symm
omit [FloatOps F] in
/-- One family of pairs as two. -/
theorem unpair (s : Finset (Dev nD)) (Φ Ψ : Dev nD → sProp 𝕄) : bigSep s (fun d => iprop(Φ d ∗ Ψ d)) ⊢ iprop(bigSep s Φ ∗ bigSep s Ψ) := Entails.of_eq (bigSep_sep s Φ Ψ)

section Closing

variable (K : Dev nD × Option OwnK → ℕ) (c : Dev nD)

/-- A device's entry for itself closes at once. -/
theorem close_self (b : Bool) : iprop(records m K ∗ atPos ER (kcell (c, some (some (b, c)))) 0 ∅ 0) ⊢ iprop(|={Set.univ}=> semVal (kcell (c, some (some (b, c)))) 0) := by
  iintro ⟨#HR, Hat⟩
  iapply (Rounds.cell_close ER (Rd m) (Set.mem_univ (K (c, some (some (b, c))))) (fun h => h) (R := 0) (duties_self m c b))
  isplitr; · iapply (inv_at m K (c, some (some (b, c)))); iexact HR
  iexact Hat

end Closing

/-- The slots, what they hold forgotten. -/
theorem landed_any (c : Dev nD) : (bigSep (Finset.univ.erase c) fun s => slotAt c s (blockVal m s c)) ⊢ bigSep (Finset.univ.erase c) fun s => slotAny (F := F) c s :=
  bigSep_mono fun s _ => slotAt_any c s (blockVal m s c)

section Run

variable (K : Dev nD × Option OwnK → ℕ)

/-- A run that is over. -/
theorem run_end (c : Dev nD) (Q : PUnit → sProp 𝕄) : Q ⟨⟩ ⊢ Runs c (.ret ⟨⟩) Q := by
  show Q ⟨⟩ ⊢ wp frame (wpE (defs₀ (F := F)) 𝒱₀ (c : Thread nD τ) none) Set.univ (.ret ⟨⟩) Q
  rw [wp_ret]
  iintro H; imodintro; iexact H

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- The state the body starts from, the names of the invariants fixed, the staging buffers at their blocks. -/
def bodyPre (c : Dev nD) : sProp 𝕄 :=
  iprop((ghost m K c ∗ credits c ∗ levAts L lv ∗ scratch c) ∗ owing c (owed₀ c)
    ∗ stg c cc0_stg0_0 (xIn m c) ∗ stg c cc0_stg1_0 (rtIn m c) ∗ stg c cc0_stg2_0 (idxIn m c) ∗ stg c cc0_stg3_0 (wIn m c)
    ∗ ∃ X, stg c cc0_stg4_0 X)

/-- The state it ends in. -/
def bodyPost (c : Dev nD) : sProp 𝕄 :=
  iprop(Φ₁ c ∗ owing c 0
    ∗ stg c cc0_stg0_0 (xIn m c) ∗ stg c cc0_stg1_0 (rtIn m c) ∗ stg c cc0_stg2_0 (idxIn m c) ∗ stg c cc0_stg3_0 (wIn m c)
    ∗ stg c cc0_stg4_0 (outVal m c))

set_option maxHeartbeats 4000000 in
/-- The body runs from the one to the other. -/
theorem sound_body (c : Dev nD) (Kt : PUnit → sProp 𝕄) :
    iprop(bodyPre m K c ∗ (bodyPost m c -∗ Kt ⟨⟩))
      ⊢ Runs c (cc0_body (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_scratch0) (Memref.isWhole_whole _)
          (Memref.whole cc0_scratch1) (Memref.isWhole_whole _) cc0_scratch2 cc0_scratch3 cc0_scoped0) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton]
  unfold k0_part1_skel k0_part2_skel k0_part3_skel k0_part4_skel k0_part5_skel k0_part6_skel k0_part7_skel k0_part8_skel k0_part9_skel k0_part10_skel
    k0_part11_skel k0_part12_skel k0_part13_skel k0_part14_skel k0_part15_skel k0_part16_skel k0_part17_skel
  simp only [semSignalWord, semWaitWord, Prog.lift, Prog.bind_op, Prog.bind_ret, Prog.pure_eq_ret, wp_deviceId]
  unfold bodyPre ghost credits scratch
  iintro ⟨⟨⟨⟨#HR, HatB, HatX, HatS, HatV, HtB, HtX, HtS, HtV⟩, ⟨HcB, HcX, HcV⟩, #Hlev, ⟨%f0, Hacc⟩, ⟨%f1, Hland⟩⟩, HO,
    ⟨%x, %hx, Hx⟩, Hrt, ⟨%ix, %hix, Hidx⟩, ⟨%w, %hw, Hw⟩, ⟨%X, %o, %ho, Hout⟩⟩, Hk⟩
  subst hx hix hw
  -- every device's entries: its own for itself apart, the peers' together
  ihave H := (apart c _) $$ HatS; icases H with ⟨HatSc, HatS⟩
  ihave H := (apart c _) $$ HatV; icases H with ⟨HatVc, HatV⟩
  ihave H := (apart c _) $$ HtB; icases H with ⟨-, HtB⟩
  ihave H := (apart c _) $$ HtX; icases H with ⟨-, HtX⟩
  ihave H := (apart c _) $$ HtS; icases H with ⟨-, HtS⟩
  ihave H := (apart c _) $$ HtV; icases H with ⟨-, HtV⟩
  imod (close_self m K c false) $$ [HatSc] with HzSc
  · isplitr; · iexact HR
    iexact HatSc
  imod (close_self m K c true) $$ [HatVc] with HzVc
  · isplitr; · iexact HR
    iexact HatVc
  -- the products
  iapply (wp_load 𝒱₀ (c : Thread nD τ) none Set.univ (m := Memref.whole cc0_stg2_0) (Finset.subset_univ _)) $$ Hidx; iintro Hidx
  rw [read_idx]
  iapply (wp_load 𝒱₀ (c : Thread nD τ) none Set.univ (m := Memref.whole cc0_stg0_0) (Finset.subset_univ _)) $$ Hx; iintro Hx
  rw [read_x]
  iapply (wp_load 𝒱₀ (c : Thread nD τ) none Set.univ (m := wB) (r := w0R) (Finset.subset_univ _)) $$ Hw; iintro Hw
  iapply (wp_load 𝒱₀ (c : Thread nD τ) none Set.univ (m := wB) (r := w1R) (Finset.subset_univ _)) $$ Hw; iintro Hw
  iapply (wp_load 𝒱₀ (c : Thread nD τ) none Set.univ (m := accB) (Finset.subset_univ _)) $$ Hacc; iintro Hacc
  iapply (wp_store 𝒱₀ (c : Thread nD τ) none Set.univ (m := accB) (r := accR) (Mk := Finset.univ) (Finset.subset_univ _)) $$ Hacc; iintro Hacc
  rw [write_acc]
  -- the accumulator cut into its blocks, the landing buffer into its slots
  ihave Hrows := (Entails.of_eq (acc_blocks m c)) $$ [Hacc]
  · iexact Hacc
  ihave H := (apart c _) $$ Hrows; icases H with ⟨Hown, Hrows⟩
  ihave H := (land_slots c f1) $$ Hland
  ihave H := (apart c _) $$ H; icases H with ⟨Hslot, Hslots⟩
  -- telling the peers
  ihave HA := (both _ _ _) $$ [HtB Hslots]
  · isplitl [HtB] <;> iassumption
  ihave HA := (rest_zero c _) $$ HA
  ihave HP : readying c 0 $$ [HO HA]
  · unfold readying
    isplitl [HO]; · iexact HO
    iexact HA
  iapply (go_ready m K c 0 _ (sig_dev0 c)) $$ [HP]
  · isplitr; · iexact HR
    iexact HP
  iintro HP
  iapply (go_ready m K c 1 _ (sig_dev1 c)) $$ [HP]
  · isplitr; · iexact HR
    iexact HP
  iintro HP
  iapply (go_ready m K c 2 _ (sig_dev2 c)) $$ [HP]
  · isplitr; · iexact HR
    iexact HP
  iintro HP
  iapply (go_ready m K c 3 _ (sig_dev3 c)) $$ [HP]
  · isplitr; · iexact HR
    iexact HP
  iintro HP
  iapply (go_ready m K c 4 _ (sig_dev4 c)) $$ [HP]
  · isplitr; · iexact HR
    iexact HP
  iintro HP
  iapply (go_ready m K c 5 _ (sig_dev5 c)) $$ [HP]
  · isplitr; · iexact HR
    iexact HP
  iintro HP
  iapply (go_ready m K c 6 _ (sig_dev6 c)) $$ [HP]
  · isplitr; · iexact HR
    iexact HP
  iintro HP
  ihave HO : owing c (owedSend c) $$ [HP]
  · unfold readying
    icases HP with ⟨HO, -⟩
    iexact HO
  -- waiting for all seven: each peer's slot for this device
  iapply (step_allReady m K c) $$ [HcB HO HatB]
  · isplitr; · iexact HR
    isplitr; · iexact Hlev
    isplitl [HcB]; · iexact HcB
    isplitl [HO] <;> iassumption
  iintro ⟨HO, HzB, Hslots⟩
  -- sending the blocks
  ihave HA := (both _ _ _) $$ [HtS HtV]
  · isplitl [HtS] <;> iassumption
  ihave HA := (both _ _ _) $$ [Hslots HA]
  · isplitl [Hslots] <;> iassumption
  ihave HA := (both _ _ _) $$ [Hrows HA]
  · isplitl [Hrows] <;> iassumption
  ihave HA := (rest_zero c _) $$ HA
  ihave HP : sending m c 0 $$ [HO HA]
  · unfold sending
    isplitl [HO]; · iexact HO
    isplitl [HA]; · iexact HA
    iapply (past_zero c _); iempintro
  iapply (go_send m K c 0 _ (dma_dev0 c) _ (rowsM_of c 0 _) _ (slotM_of c _) _ _ (sendS_of c 0) (recvS_own c)) $$ [HP]
  · isplitr; · iexact HR
    iexact HP
  iintro HP
  iapply (go_send m K c 1 _ (dma_dev1 c) _ (rowsM_of c 1 _) _ (slotM_of c _) _ _ (sendS_of c 1) (recvS_own c)) $$ [HP]
  · isplitr; · iexact HR
    iexact HP
  iintro HP
  iapply (go_send m K c 2 _ (dma_dev2 c) _ (rowsM_of c 2 _) _ (slotM_of c _) _ _ (sendS_of c 2) (recvS_own c)) $$ [HP]
  · isplitr; · iexact HR
    iexact HP
  iintro HP
  iapply (go_send m K c 3 _ (dma_dev3 c) _ (rowsM_of c 3 _) _ (slotM_of c _) _ _ (sendS_of c 3) (recvS_own c)) $$ [HP]
  · isplitr; · iexact HR
    iexact HP
  iintro HP
  iapply (go_send m K c 4 _ (dma_dev4 c) _ (rowsM_of c 4 _) _ (slotM_of c _) _ _ (sendS_of c 4) (recvS_own c)) $$ [HP]
  · isplitr; · iexact HR
    iexact HP
  iintro HP
  iapply (go_send m K c 5 _ (dma_dev5 c) _ (rowsM_of c 5 _) _ (slotM_of c _) _ _ (sendS_of c 5) (recvS_own c)) $$ [HP]
  · isplitr; · iexact HR
    iexact HP
  iintro HP
  iapply (go_send m K c 6 _ (dma_dev6 c) _ (rowsM_of c 6 _) _ (slotM_of c _) _ _ (sendS_of c 6) (recvS_own c)) $$ [HP]
  · isplitr; · iexact HR
    iexact HP
  iintro HP
  ihave HP : sending m c 7 $$ [HP]; · iexact HP
  unfold sending
  icases HP with ⟨HO, -, HcS⟩
  ihave HcS := (past_all c _) $$ HcS
  -- its own block
  iapply (step_own m c _ (own_rect c _)) $$ Hown; iintro Hown
  rw [own_val m c _ (off5_eq c)]
  -- each peer's block as it arrives
  ihave HA := (both _ _ _) $$ [HcV HatV]
  · isplitl [HcV] <;> iassumption
  ihave HA := (rest_zero c _) $$ HA
  ihave HP : arriving m c 0 $$ [HO HA]
  · unfold arriving
    isplitl [HO]; · iexact HO
    isplitl [HA]; · iexact HA
    iapply (past_zero c _); iempintro
  iapply (go_arrive m K c 0 _ _ _ (recvS_of c 0) (wait_slot c 0 _)) $$ [HP]
  · isplitr; · iexact HR
    isplitr; · iexact Hlev
    iexact HP
  iintro HP
  iapply (go_load m c 0 _ (off7_eq c 0)) $$ HP; iintro HP
  iapply (go_arrive m K c 1 _ _ _ (recvS_of c 1) (wait_slot c 1 _)) $$ [HP]
  · isplitr; · iexact HR
    isplitr; · iexact Hlev
    iexact HP
  iintro HP
  iapply (go_load m c 1 _ (off7_eq c 1)) $$ HP; iintro HP
  iapply (go_arrive m K c 2 _ _ _ (recvS_of c 2) (wait_slot c 2 _)) $$ [HP]
  · isplitr; · iexact HR
    isplitr; · iexact Hlev
    iexact HP
  iintro HP
  iapply (go_load m c 2 _ (off7_eq c 2)) $$ HP; iintro HP
  iapply (go_arrive m K c 3 _ _ _ (recvS_of c 3) (wait_slot c 3 _)) $$ [HP]
  · isplitr; · iexact HR
    isplitr; · iexact Hlev
    iexact HP
  iintro HP
  iapply (go_load m c 3 _ (off7_eq c 3)) $$ HP; iintro HP
  iapply (go_arrive m K c 4 _ _ _ (recvS_of c 4) (wait_slot c 4 _)) $$ [HP]
  · isplitr; · iexact HR
    isplitr; · iexact Hlev
    iexact HP
  iintro HP
  iapply (go_load m c 4 _ (off7_eq c 4)) $$ HP; iintro HP
  iapply (go_arrive m K c 5 _ _ _ (recvS_of c 5) (wait_slot c 5 _)) $$ [HP]
  · isplitr; · iexact HR
    isplitr; · iexact Hlev
    iexact HP
  iintro HP
  iapply (go_load m c 5 _ (off7_eq c 5)) $$ HP; iintro HP
  iapply (go_arrive m K c 6 _ _ _ (recvS_of c 6) (wait_slot c 6 _)) $$ [HP]
  · isplitr; · iexact HR
    isplitr; · iexact Hlev
    iexact HP
  iintro HP
  iapply (go_load m c 6 _ (off7_eq c 6)) $$ HP; iintro HP
  ihave HP : arriving m c 7 $$ [HP]; · iexact HP
  unfold arriving
  icases HP with ⟨HO, -, Hland⟩
  ihave Hland := (past_all c _) $$ Hland
  ihave Hland := (unpair _ _ _) $$ Hland
  icases Hland with ⟨HzV, Hland⟩
  -- the result
  iapply (wp_load 𝒱₀ (c : Thread nD τ) none Set.univ (m := Memref.whole cc0_stg4_0) (Finset.subset_univ _)) $$ Hout; iintro Hout
  iapply (wp_store 𝒱₀ (c : Thread nD τ) none Set.univ (m := Memref.whole cc0_stg4_0) (r := outR) (Mk := Finset.univ) (Finset.subset_univ _)) $$ Hout; iintro Hout
  rw [write_out, result_eq m c]
  -- the sent blocks back
  ihave HA := (both _ _ _) $$ [HcS HatS]
  · isplitl [HcS] <;> iassumption
  ihave HA := (rest_zero c _) $$ HA
  ihave HP : departing m c 0 $$ [HO HA]
  · unfold departing
    isplitl [HO]; · iexact HO
    isplitl [HA]; · iexact HA
    iapply (past_zero c _); iempintro
  iapply (go_depart m K c 0 _ _ _ (sendS_of c 0) (wait_rows c 0 _)) $$ [HP]
  · isplitr; · iexact HR
    isplitr; · iexact Hlev
    iexact HP
  iintro HP
  iapply (go_depart m K c 1 _ _ _ (sendS_of c 1) (wait_rows c 1 _)) $$ [HP]
  · isplitr; · iexact HR
    isplitr; · iexact Hlev
    iexact HP
  iintro HP
  iapply (go_depart m K c 2 _ _ _ (sendS_of c 2) (wait_rows c 2 _)) $$ [HP]
  · isplitr; · iexact HR
    isplitr; · iexact Hlev
    iexact HP
  iintro HP
  iapply (go_depart m K c 3 _ _ _ (sendS_of c 3) (wait_rows c 3 _)) $$ [HP]
  · isplitr; · iexact HR
    isplitr; · iexact Hlev
    iexact HP
  iintro HP
  iapply (go_depart m K c 4 _ _ _ (sendS_of c 4) (wait_rows c 4 _)) $$ [HP]
  · isplitr; · iexact HR
    isplitr; · iexact Hlev
    iexact HP
  iintro HP
  iapply (go_depart m K c 5 _ _ _ (sendS_of c 5) (wait_rows c 5 _)) $$ [HP]
  · isplitr; · iexact HR
    isplitr; · iexact Hlev
    iexact HP
  iintro HP
  iapply (go_depart m K c 6 _ _ _ (sendS_of c 6) (wait_rows c 6 _)) $$ [HP]
  · isplitr; · iexact HR
    isplitr; · iexact Hlev
    iexact HP
  iintro HP
  ihave HP : departing m c 7 $$ [HP]; · iexact HP
  unfold departing
  icases HP with ⟨HO, -, Hrows⟩
  ihave Hrows := (past_all c _) $$ Hrows
  ihave Hrows := (unpair _ _ _) $$ Hrows
  icases Hrows with ⟨HzS, Hrows⟩
  -- leaving together
  ihave HA := (rest_zero c _) $$ HtX
  ihave HP : leaving c 0 $$ [HO HA]
  · unfold leaving
    isplitl [HO]; · iexact HO
    iexact HA
  iapply (go_leave m K c 0 _ (exit_dev0 c)) $$ [HP]
  · isplitr; · iexact HR
    iexact HP
  iintro HP
  iapply (go_leave m K c 1 _ (exit_dev1 c)) $$ [HP]
  · isplitr; · iexact HR
    iexact HP
  iintro HP
  iapply (go_leave m K c 2 _ (exit_dev2 c)) $$ [HP]
  · isplitr; · iexact HR
    iexact HP
  iintro HP
  iapply (go_leave m K c 3 _ (exit_dev3 c)) $$ [HP]
  · isplitr; · iexact HR
    iexact HP
  iintro HP
  iapply (go_leave m K c 4 _ (exit_dev4 c)) $$ [HP]
  · isplitr; · iexact HR
    iexact HP
  iintro HP
  iapply (go_leave m K c 5 _ (exit_dev5 c)) $$ [HP]
  · isplitr; · iexact HR
    iexact HP
  iintro HP
  iapply (go_leave m K c 6 _ (exit_dev6 c)) $$ [HP]
  · isplitr; · iexact HR
    iexact HP
  iintro HP
  ihave HO : owing c 0 $$ [HP]
  · unfold leaving
    icases HP with ⟨HO, -⟩
    iexact HO
  iapply (step_allDone m K c) $$ [HcX HO HatX]
  · isplitr; · iexact HR
    isplitl [HcX]; · iexact HcX
    isplitl [HO] <;> iassumption
  iintro ⟨HO, HzX⟩
  iapply (run_end c Kt)
  iapply Hk
  unfold bodyPost Φ₁ scratch atZero
  isplitl [Hown Hrows Hslot Hland HzB HzX HzSc HzS HzVc HzV]
  · isplitl [Hown Hrows Hslot Hland]
    · isplitl [Hown Hrows]
      · iexists (accVal m c)
        iapply (Entails.of_eq (acc_blocks m c).symm)
        iapply (together c _)
        isplitl [Hown] <;> iassumption
      · iapply (land_join c f1)
        iapply (together c _)
        isplitl [Hslot]; · iexact Hslot
        iapply (landed_any m c); iexact Hland
    isplitl [HzB]; · iexact HzB
    isplitl [HzX]; · iexact HzX
    isplitl [HzSc HzS]
    · iapply (together c _)
      isplitl [HzSc] <;> iassumption
    · iapply (together c _)
      isplitl [HzVc] <;> iassumption
  isplitl [HO]; · iexact HO
  isplitl [Hx]
  · iexists _; isplitr; · (ipureintro; rfl)
    iexact Hx
  isplitl [Hrt]; · iexact Hrt
  isplitl [Hidx]
  · iexists _; isplitr; · (ipureintro; rfl)
    iexact Hidx
  isplitl [Hw]
  · iexists _; isplitr; · (ipureintro; rfl)
    iexact Hw
  iexists _; isplitr; · (ipureintro; rfl)
  iexact Hout

/-- The body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show iprop(Φ₀ m c ∗ (dats m ρ 0 c).owesAt () t0_0.castSucc
      ∗ (∃ d, stg c cc0_stg0_0 ((dats m ρ 0 c).before (0 : Fin 5) t0_0 d)) ∗ (∃ d, stg c cc0_stg1_0 ((dats m ρ 0 c).before (1 : Fin 5) t0_0 d))
      ∗ (∃ d, stg c cc0_stg2_0 ((dats m ρ 0 c).before (2 : Fin 5) t0_0 d)) ∗ (∃ d, stg c cc0_stg3_0 ((dats m ρ 0 c).before (3 : Fin 5) t0_0 d))
      ∗ (∃ d, stg c cc0_stg4_0 ((dats m ρ 0 c).before (4 : Fin 5) t0_0 d)))
    ⊢ Runs c (cc0_body (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_scratch0) (Memref.isWhole_whole _)
          (Memref.whole cc0_scratch1) (Memref.isWhole_whole _) cc0_scratch2 cc0_scratch3 cc0_scoped0)
        (fun _ => iprop(Φ₁ c ∗ (dats m ρ 0 c).owesAt () t0_0.succ
          ∗ stg c cc0_stg0_0 (xIn m c) ∗ stg c cc0_stg1_0 (rtIn m c) ∗ stg c cc0_stg2_0 (idxIn m c) ∗ stg c cc0_stg3_0 (wIn m c)
          ∗ stg c cc0_stg4_0 (outVal m c)))
  have h0 : ∀ d, (dats m ρ 0 c).before (0 : Fin 5) t0_0 d = xIn m c := fun d => by unfold Dat.before; rw [if_pos (fetch0_0 t0_0)]; rfl
  have h1 : ∀ d, (dats m ρ 0 c).before (1 : Fin 5) t0_0 d = rtIn m c := fun d => by unfold Dat.before; rw [if_pos (fetch0_1 t0_0)]; rfl
  have h2 : ∀ d, (dats m ρ 0 c).before (2 : Fin 5) t0_0 d = idxIn m c := fun d => by unfold Dat.before; rw [if_pos (fetch0_2 t0_0)]; rfl
  have h3 : ∀ d, (dats m ρ 0 c).before (3 : Fin 5) t0_0 d = wIn m c := fun d => by unfold Dat.before; rw [if_pos (fetch0_3 t0_0)]; rfl
  unfold Φ₀ start Dat.owesAt Pipeline.owesWithin
  simp only [h0, h1, h2, h3]
  rw [show (dats m ρ 0 c).owed t0_0.castSucc = owed₀ c from rfl, show (dats m ρ 0 c).owed t0_0.succ = 0 from rfl]
  iintro ⟨⟨⟨⟨%K, Hg⟩, Hc, Hlev⟩, Hscr⟩, ⟨%W, -, HO⟩, ⟨%d0, H0⟩, ⟨%d1, H1⟩, ⟨%d2, H2⟩, ⟨%d3, H3⟩, ⟨%d4, H4⟩⟩
  iapply (sound_body m K c _)
  unfold bodyPre
  isplitr []
  · isplitl [Hg Hc Hlev Hscr]
    · isplitl [Hg]; · iexact Hg
      isplitl [Hc]; · iexact Hc
      isplitl [Hlev] <;> iassumption
    isplitl [HO]; · unfold owing; iexists W; iexact HO
    isplitl [H0]; · iexact H0
    isplitl [H1]; · iexact H1
    isplitl [H2]; · iexact H2
    isplitl [H3]; · iexact H3
    iexists _; iexact H4
  · unfold bodyPost owing
    iintro ⟨HΦ, ⟨%W', HO⟩, H⟩
    isplitl [HΦ]; · iexact HΦ
    isplitl [HO]
    · iexists W'
      isplitr; · ipureintro; exact fun _ _ => Or.inl trivial
      iexact HO
    iexact H

end Run

end Cert.KernelProof

end
-- ==== Proof.Launch.lean ====
/-
# The launch, and the run of all eight devices

The semaphores' round states and tokens are made at launch, each device dealt its own positions and the tokens of the
duties it pays; each device is credited what the others owe it; the run theorem then gives every device's result and
every semaphore counter at zero.
-/
module

public import proofs.«01_k».proof.Proof.Body
public import Idealize.ShloMosaic.Lib.Pipeline.CollectiveSegs

@[expose] public section

set_option maxRecDepth 16384

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## One device's semaphores, listed -/

omit [FloatOps F] in
theorem bigSep_own (Φ : Option OwnK → sProp 𝕄) :
    bigSep Finset.univ Φ = iprop(Φ none ∗ bigSep Finset.univ fun k : OwnK => Φ (some k)) := by
  rw [bigSep_univ_at Φ none, show (Finset.univ.erase none : Finset (Option OwnK)) = Finset.univ.map Function.Embedding.some from by decide +kernel, bigSep_map]
  rfl
omit [FloatOps F] in
theorem bigSep_entries (Φ : OwnK → sProp 𝕄) :
    bigSep Finset.univ Φ = iprop(Φ none ∗ (bigSep Finset.univ fun t : Dev nD => Φ (some (false, t))) ∗ bigSep Finset.univ fun s : Dev nD => Φ (some (true, s))) := by
  rw [bigSep_univ_at Φ none, show (Finset.univ.erase none : Finset OwnK) = Finset.univ.map Function.Embedding.some from by decide +kernel, bigSep_map,
    bigSep_univ_prod, bigSep_univ_eq_bigSepL [false, true] (by decide) (by decide)]
  rfl
omit [FloatOps F] in
/-- A family over a device's semaphores: the barrier, the leaving semaphore, the departures, the arrivals. -/
theorem bigSep_cells (Φ : Option OwnK → sProp 𝕄) :
    bigSep Finset.univ Φ = iprop(Φ none ∗ Φ (some none) ∗ (bigSep Finset.univ fun t : Dev nD => Φ (some (some (false, t))))
      ∗ bigSep Finset.univ fun s : Dev nD => Φ (some (some (true, s)))) := by
  rw [bigSep_own, bigSep_entries]

/-! ## What is minted -/

theorem ownSemFacts : Pipeline.OwnSemFacts cfg0.spec osem := by decide +kernel

def allCells : Finset (GSem nD τ sig) := Finset.univ.map ⟨kcell, kcell_injective⟩

/-- The duty tokens of device `c` that name device `d`, one for each kind of semaphore. -/
def kindIn (d : Dev nD) : Fin 4 → Option OwnK
  | 0 => none | 1 => some none | 2 => some (some (false, d)) | 3 => some (some (true, d))
abbrev tokOf (x : (Dev nD × Dev nD) × Fin 4) : GSem nD τ sig × ℕ × Dev nD := (kcell (x.1.1, kindIn x.1.2 x.2), 0, x.1.2)
theorem tokOf_injective : Function.Injective tokOf := by
  rintro ⟨⟨c, d⟩, j⟩ ⟨⟨c', d'⟩, j'⟩ h
  have h1 := kcell_injective (congrArg Prod.fst h)
  have h2 : d = d' := congrArg (fun x : GSem nD τ sig × ℕ × Dev nD => x.2.2) h
  subst h2
  have h3 : c = c' := congrArg Prod.fst h1
  have h4 : kindIn d j = kindIn d j' := congrArg Prod.snd h1
  subst h3
  have hk : ∀ (d : Dev nD) (j j' : Fin 4), kindIn d j = kindIn d j' → j = j' := by decide +kernel
  have : j = j' := hk d j j' h4
  subst this; rfl
def allToks : Finset (GSem nD τ sig × ℕ × Dev nD) := Finset.univ.map ⟨tokOf, tokOf_injective⟩

def u₀ : UU := (initOf (Pipeline.cells cfgs cellOf_inj) (Pipeline.launchToks cfgs cellOf_inj), initOf allCells allToks)

/-- The duty tokens of device `c`'s own semaphores, whoever pays them; -/
def toks (c : Dev nD) : sProp 𝕄 :=
  iprop((bigSep Finset.univ fun d => dutyTok ER (barCell c) 0 d) ∗ (bigSep Finset.univ fun d => dutyTok ER (exitCell c) 0 d)
    ∗ (bigSep Finset.univ fun d => dutyTok ER (sendCell c d) 0 d) ∗ bigSep Finset.univ fun d => dutyTok ER (recvCell c d) 0 d)
/-- the tokens of the duties device `c` pays. -/
def payToks (c : Dev nD) : sProp 𝕄 :=
  iprop((bigSep Finset.univ fun d => dutyTok ER (barCell d) 0 c) ∗ (bigSep Finset.univ fun d => dutyTok ER (exitCell d) 0 c)
    ∗ (bigSep Finset.univ fun d => dutyTok ER (sendCell c d) 0 d) ∗ bigSep Finset.univ fun d => dutyTok ER (recvCell d c) 0 c)

/-- What the launch deals device `c`; -/
def G (c : Dev nD) : sProp 𝕄 :=
  iprop((bigSep Finset.univ fun k : Option OwnK => roundState ER (Rd m) (kcell (c, k)) 0)
    ∗ (bigSep Finset.univ fun k : Option OwnK => iprop(atPos ER (kcell (c, k)) 0 ∅ 0 ∗ reached ER (kcell (c, k)) 0)) ∗ toks c)
/-- what becomes of it. -/
def G' (c : Dev nD) : sProp 𝕄 := iprop(∃ K, ghost m K c)

omit [FloatOps F] in
theorem bigSep_kinds (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
theorem toks_eq : bigSep allToks (fun x => (dutyTok ER x.1 x.2.1 x.2.2 : sProp 𝕄)) = bigSep Finset.univ fun c : Dev nD => toks c := by
  unfold allToks
  rw [bigSep_map, bigSep_univ_prod, bigSep_univ_prod]
  refine bigSep_congr fun c _ => ?_
  unfold toks
  rw [← bigSep_sep', ← bigSep_sep', ← bigSep_sep']
  exact bigSep_congr fun d _ => (bigSep_kinds _).trans rfl

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Option OwnK => Φ (kcell (c, k)) := by
    unfold allCells; rw [bigSep_map, bigSep_univ_prod]; rfl
  iintro HX
  imod (Rounds.fund ER (Rd m) allCells allToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq toks_eq) $$ Htok
  unfold G; simp only [bigSep_sep']
  isplitl [Hst]; · iexact Hst
  isplitl [Hat Hr]
  · isplitl [Hat] <;> iassumption
  iexact Htok

/-! ## The counters at launch become the invariants -/

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option OwnK => semVal (kcell (c, k)) 0 : sProp 𝕄) := by
  rw [unscopedSems0_eq, bigSep_own]
  unfold Pipeline.ownSems0
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Option OwnK => semVal (kcell (c, k)) 0) ∗ bigSep Finset.univ fun k : Option OwnK => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What stays with device `c`: its positions, and the tokens it pays with. -/
def linear (c : Dev nD) : sProp 𝕄 := iprop((bigSep Finset.univ fun k : Option OwnK => atPos ER (kcell (c, k)) 0 ∅ 0) ∗ payToks c)

theorem ghost_intro (K : Dev nD × Option OwnK → ℕ) (c : Dev nD) : iprop(records m K ∗ linear c) ⊢ G' m c := by
  unfold linear payToks G' ghost
  rw [bigSep_cells]
  iintro ⟨#HR, ⟨HB, HX, HS, HV⟩, HtB, HtX, HtS, HtV⟩
  iexists K
  isplitr; · iexact HR
  isplitl [HB]; · iexact HB
  isplitl [HX]; · iexact HX
  isplitl [HS]; · iexact HS
  isplitl [HV]; · iexact HV
  isplitl [HtB]; · iexact HtB
  isplitl [HtX]; · iexact HtX
  isplitl [HtS] <;> iassumption

omit [FloatOps F] in
theorem bigSep_swap (Φ : Dev nD → Dev nD → sProp 𝕄) :
    (bigSep Finset.univ fun c => bigSep Finset.univ fun d => Φ c d) = bigSep Finset.univ fun d => bigSep Finset.univ fun c => Φ c d := by
  rw [← bigSep_univ_prod (fun x : Dev nD × Dev nD => Φ x.1 x.2), ← bigSep_univ_prod (fun x : Dev nD × Dev nD => Φ x.2 x.1)]
  exact bigSep_univ_equiv (Equiv.prodComm (Dev nD) (Dev nD)) (fun x : Dev nD × Dev nD => Φ x.1 x.2)

omit [FloatOps F] in
/-- The tokens dealt from the semaphores' devices to the paying ones. -/
theorem toks_dealt : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_swap (fun c d : Dev nD => (dutyTok ER (barCell c) 0 d : sProp 𝕄)),
    bigSep_swap (fun c d : Dev nD => (dutyTok ER (exitCell c) 0 d : sProp 𝕄)),
    bigSep_swap (fun c d : Dev nD => (dutyTok ER (recvCell c d) 0 d : sProp 𝕄))]

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Option OwnK => iprop(∃ κ : ℕ, cellInv ER (Rd m) κ (kcell ck))),
    bigSep_congr (s := Finset.univ) (fun (c : Dev nD) _ => bigSep_sep' Finset.univ (fun k : Option OwnK => (atPos ER (kcell (c, k)) 0 ∅ 0 : sProp 𝕄)) (fun k => reached ER (kcell (c, k)) 0)),
    bigSep_sep', ← bigSep_univ_prod (fun ck : Dev nD × Option OwnK => (reached ER (kcell ck) 0 : sProp 𝕄))]
  iintro ⟨HI, ⟨Hat, #HR⟩, Htok⟩
  ihave HK := (BI.bigSep_exists_pi Finset.univ (fun (ck : Dev nD × Option OwnK) (κ : ℕ) => (cellInv ER (Rd m) κ (kcell ck) : sProp 𝕄))) $$ HI
  icases HK with ⟨%K, #HI⟩
  ihave Htk := (toks_dealt (F := F)) $$ Htok
  iapply (bigSep_with_persistent (R := records m K) fun c _ => ghost_intro m K c)
  isplitr
  · unfold records; isplitl; · iexact HI
    iexact HR
  · unfold linear
    iapply (Entails.of_eq (bigSep_sep' Finset.univ (fun c : Dev nD => bigSep Finset.univ fun k : Option OwnK => (atPos ER (kcell (c, k)) 0 ∅ 0 : sProp 𝕄)) payToks).symm)
    isplitl [Hat]; · iexact Hat
    iexact Htk

/-- All devices' semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What each device is credited -/

/-- How many units, blocks and leaving units device `d` owes semaphore `ck`. -/
def countB (d : Dev nD) (ck : Dev nD × Option OwnK) : ℕ := ((others d).map fun x => if ck = (x, none) then 1 else 0).sum
def countR (d : Dev nD) (ck : Dev nD × Option OwnK) : ℕ := ((others d).map fun x => if ck = (x, some (some (true, d))) then 1 else 0).sum
def countX (d : Dev nD) (ck : Dev nD × Option OwnK) : ℕ := ((others d).map fun x => if ck = (x, some none) then 1 else 0).sum

theorem stack_count (l : List (Dev nD)) (f : Dev nD → Dev nD × Option OwnK) (a : ℕ) (ck : Dev nD × Option OwnK) (b : CellTallies nD τ sig Unit) :
    stack (l.map fun x => tallyAt (kcell (f x)) () a) b (kcell ck) () = a * (l.map fun x => if ck = f x then 1 else 0).sum + b (kcell ck) () := by
  rw [stack_apply, List.map_map]
  congr 1
  induction l with
  | nil => rfl
  | cons x l ih =>
    rw [List.map_cons, List.sum_cons, ih, List.map_cons, List.sum_cons, Nat.mul_add]
    congr 1
    show tallyAt (kcell (f x)) () a (kcell ck) () = _
    rw [tallyAt_apply]
    by_cases h : ck = f x
    · rw [if_pos ⟨congrArg kcell h, rfl⟩, if_pos h, Nat.mul_one]
    · rw [if_neg fun h' => h (kcell_injective h'.1), if_neg h, Nat.mul_zero]

theorem owed_count (d : Dev nD) (ck : Dev nD × Option OwnK) : owed₀ d (kcell ck) () = countB d ck + (N * countR d ck + countX d ck) := by
  unfold owed₀ owedSend owedExit countB countR countX
  rw [stack_count (others d) (fun x => (x, none)), stack_count (others d) (fun x => (x, some (some (true, d)))), stack_count (others d) (fun x => (x, some none)),
    Nat.one_mul, Nat.one_mul]
  rfl

theorem credit_count (ck : Dev nD × Option OwnK) (n : ℕ) (h : (∑ d, countB d ck) + (N * (∑ d, countR d ck) + ∑ d, countX d ck) = n) :
    tallyOn (kcell ck) (launchCredit (Pipeline.owing owed₀) 0 (kcell ck)) = (tallyAt (kcell ck) () n : CellTallies nD τ sig Unit) := by
  unfold tallyAt; refine congrArg _ (Finsupp.ext fun u => ?_); cases u
  rw [Pipeline.launchCredit_owing, Finsupp.single_eq_same, ← h, Finset.sum_congr rfl fun d _ => owed_count d ck, Finset.sum_add_distrib, Finset.sum_add_distrib, Finset.mul_sum]

theorem count_bar : ∀ c : Dev nD, (∑ d, countB d (c, none)) = 7 ∧ (∑ d, countR d (c, none)) = 0 ∧ (∑ d, countX d (c, none)) = 0 := by decide +kernel
theorem count_exit : ∀ c : Dev nD, (∑ d, countB d (c, some none)) = 0 ∧ (∑ d, countR d (c, some none)) = 0 ∧ (∑ d, countX d (c, some none)) = 7 := by decide +kernel
theorem count_recv : ∀ c s : Dev nD, s ≠ c → (∑ d, countB d (c, some (some (true, s)))) = 0 ∧ (∑ d, countR d (c, some (some (true, s)))) = 1
    ∧ (∑ d, countX d (c, some (some (true, s)))) = 0 := by decide +kernel

omit [FloatOps F] in
theorem drop_left (P Q : sProp 𝕄) : iprop(P ∗ Q) ⊢ Q := sep_elim_right

omit [FloatOps F] in
theorem creds (c : Dev nD) : (Pipeline.launchCred owed₀ c : sProp 𝕄) ⊢ credits c := by
  unfold Pipeline.launchCred credits
  refine (bigSep_subset (Finset.subset_univ (Finset.univ.map ⟨csem, csem_injective⟩))).trans ?_
  rw [bigSep_map, bigSep_cells]
  refine BI.sep_mono (Entails.of_eq (congrArg cred (credit_count (c, none) 7 ?_))) (BI.sep_mono (Entails.of_eq (congrArg cred (credit_count (c, some none) 7 ?_)))
    ((drop_left _ _).trans ((bigSep_subset (Finset.subset_univ (Finset.univ.erase c))).trans
      (bigSep_mono fun s hs => Entails.of_eq (congrArg cred (credit_count (c, some (some (true, s))) N ?_))))))
  · obtain ⟨h1, h2, h3⟩ := count_bar c; rw [h1, h2, h3]; rfl
  · obtain ⟨h1, h2, h3⟩ := count_exit c; rw [h1, h2, h3]; rfl
  · obtain ⟨h1, h2, h3⟩ := count_recv c s (Finset.ne_of_mem_erase hs); rw [h1, h2, h3]; omega

/-! ## The run theorem's conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ scratch atZero Pipeline.ownSems0
  rw [bigSep_entries]
  iintro ⟨Hr, HzB, HzX, HzS, HzV⟩
  isplitl [HzB]; · iexact HzB
  isplitl [HzX HzS HzV]
  · isplitl [HzX]; · iexact HzX
    isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_above c _ 0 (le_of_eq (lv_dma c _ (by revert w s; decide +kernel))) (by
      rcases t with ⟨_ | _, ht⟩
      · exact above_owed₀ c
      · exact above_zero 0)

/-! ## The run -/

/-- What an array holds in the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- At the mesh of eight devices, for any float values, from any memory with zero counters: every fair execution ends, with
    each array at its final contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := owed₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The four input arrays end as they began. -/
theorem finalA_in (c : Dev nD) : finalA m ρ c (0 : Fin 5) = m ((c : Thread nD τ).loc main_arg0) ∧ finalA m ρ c (1 : Fin 5) = m ((c : Thread nD τ).loc main_arg1)
    ∧ finalA m ρ c (2 : Fin 5) = m ((c : Thread nD τ).loc main_arg2) ∧ finalA m ρ c (3 : Fin 5) = m ((c : Thread nD τ).loc main_arg3) :=
  ⟨(dats (F := F) m ρ 0 c).arrAt_in (0 : Fin 5) rfl _, (dats (F := F) m ρ 0 c).arrAt_in (1 : Fin 5) rfl _,
    (dats (F := F) m ρ 0 c).arrAt_in (2 : Fin 5) rfl _, (dats (F := F) m ρ 0 c).arrAt_in (3 : Fin 5) rfl _⟩

end Cert.KernelProof

end
-- ==== Proof.KernelValue.lean ====
module

public import proofs.«01_k».proof.Proof.Protocol
public import Idealize.ShloMosaic.Lib.Pointwise
public import Idealize.ShloMosaic.Lib.IdealHost
public import Idealize.ShloMosaic.Lib.WordCmp
public import Idealize.ShloMosaic.Lib.Tactic.WordOmega

/-! # What each device computes, entry by entry, over the ideal numbers

A token is served while its expert has had at most twelve tokens up to and including it. Each device multiplies the
tokens served by its own two experts with these experts' weights. -/

@[expose] public section

set_option maxRecDepth 16384

noncomputable section

namespace Cert.KernelProof

open Cert.KernelIdeal Cert.KernelIdeal.Gen
open Idealize.ShloMosaic Idealize.ShloMosaic.TcCoe

/-- The tokens up to token `t` that chose the expert of `t`. -/
def chosen (e : Vec Ideal S256x1 .i32) (t : Fin 256) : Finset (Fin 256) :=
  Finset.univ.filter fun k => k ≤ t ∧ e (ix2 k 0) = e (ix2 t 0)

/-- Token `t` finds room at its expert. -/
def Room (e : Vec Ideal S256x1 .i32) (t : Fin 256) : Prop := (chosen e t).card ≤ 12

instance (e : Vec Ideal S256x1 .i32) (t : Fin 256) : Decidable (Room e t) := inferInstanceAs (Decidable (_ ≤ _))

/-- The capacity as a binary32 word denotes twelve. -/
theorem ofBits_twelve : Ideal.ofBits .f32 1094713344#32 = ((12 : ℕ) : EReal) := by
  have h : Ideal.ofBits .f32 1094713344#32 = ((12 : ℝ) : EReal) := by
    simp [Ideal.ofBits, Ideal.ieee]
    rw [← EReal.coe_mul]
    norm_num
  rw [h]; rfl

/-- A truth value widened to a word and read as a number is one or zero. -/
theorem sitofp_flag (p : Bool) :
    (FloatOps.sitofp .f32 (BitVec.setWidth 32 (BitVec.ofBool p)) : Ideal .f32) = if p then (1 : EReal) else 0 := by
  cases p <;> simp [FloatOps.sitofp]

/-- Signed comparison of two token numbers. -/
theorem sge_token (t k : Fin 256) :
    IntOp.cmpi .sge (BitVec.ofNat 32 t.val) (BitVec.ofNat 32 k.val) = BitVec.ofBool (decide (k ≤ t)) :=
  WordCmp.cmpi_sge_ofNat (by omega) (by omega)

/-- The words of two experts are equal only if the experts are. -/
theorem expert_word (a b : Fin 16) : (BitVec.ofNat 32 a.val = BitVec.ofNat 32 b.val) ↔ a = b := by
  constructor
  · intro h
    have := congrArg BitVec.toNat h
    simp only [BitVec.toNat_ofNat] at this
    exact Fin.ext (by omega)
  · rintro rfl; rfl

/-- The mask of a token whose index names an expert: whether the token finds room. -/
theorem pay2_apply (e : Vec Ideal S256x1 .i32) (t : Fin 256) (a : Fin 16) (ha : e (ix2 t 0) = BitVec.ofNat 32 a.val) :
    k0_pay2 (F := Ideal) e (ix2 t 0) = BitVec.ofBool (decide (Room e t)) := by
  pointwise [k0_pay2, k0_pay1]
  have hinj : ∀ x : Fin 16, (e (ix2 t 0) = BitVec.ofNat 32 x.val) ↔ a = x := fun x => by rw [ha]; exact expert_word a x
  simp only [WordCmp.cmpi_eq_eq, sge_token, sitofp_flag, hinj, decide_eq_true_eq, mul_ite, mul_one, mul_zero, Finset.sum_ite_eq,
    Finset.mem_univ, if_true, ← ha, ite_mul, one_mul, zero_mul]
  rw [ofBits_twelve]
  simp only [← ite_and]
  rw [Finset.sum_boole]
  refine congrArg _ (decide_eq_decide.mpr ?_)
  rw [EReal.natCast_le_iff]
  simp only [Room, chosen, and_comm]

/-- The words with which device `c` names its first and its second expert. -/
theorem word0 (c : Dev nD) :
    Scalar.addi (Scalar.muli (Scalar.remsi (Scalar.divsi c.word 1#32) 8#32) 2#32) 0#32 = BitVec.ofNat 32 (2 * c.val) := by
  revert c; decide

theorem word1 (c : Dev nD) :
    Scalar.addi (Scalar.muli (Scalar.remsi (Scalar.divsi c.word 1#32) 8#32) 2#32) 1#32 = BitVec.ofNat 32 (2 * c.val + 1) := by
  revert c; decide

/-- Token `t` is served by expert `a`. -/
def Served (e : Vec Ideal S256x1 .i32) (t : Fin 256) (a : Nat) : Prop := e (ix2 t 0) = BitVec.ofNat 32 a ∧ Room e t

instance (e : Vec Ideal S256x1 .i32) (t : Fin 256) (a : Nat) : Decidable (Served e t a) := inferInstanceAs (Decidable (_ ∧ _))

/-- The flag that a token's index is `a` and that the token is kept picks by whether expert `a` serves the token. -/
theorem select_served {α : Type} (e : Vec Ideal S256x1 .i32) (t : Fin 256) (a : Fin 16) (u v : α) :
    Scalar.select (IntOp.andi (IntOp.cmpi .eq (e (ix2 t 0)) (BitVec.ofNat 32 a.val)) (k0_pay2 (F := Ideal) e (ix2 t 0))) u v
      = if Served e t a.val then u else v := by
  by_cases ha : e (ix2 t 0) = BitVec.ofNat 32 a.val
  · rw [pay2_apply e t a ha, WordCmp.cmpi_eq_eq, WordCmp.andi_ofBool, WordCmp.select_ofBool]
    simp [Served, ha]
  · rw [WordCmp.cmpi_eq_eq, decide_eq_false ha, if_neg fun h => ha h.1]
    generalize k0_pay2 (F := Ideal) e (ix2 t 0) = b
    revert b
    intro b
    have : IntOp.andi (BitVec.ofBool false) b = 0#1 := by unfold IntOp.andi; simp
    rw [this]; rfl

/-- Device `c`'s rows for its first expert: the tokens it serves, and zero elsewhere. -/
theorem pay4_apply (c : Dev nD) (e : Vec Ideal S256x1 .i32) (x : Vec Ideal S256x128 .bf16) (t : Fin 256) (k : Fin 128) :
    k0_pay4 (F := Ideal) c e x (ix2 t k) = if Served e t (2 * c.val) then x (ix2 t k) else (0 : EReal) := by
  pointwise [k0_pay4, k0_pay3, k0_pay1]
  rw [word0]
  exact select_served e t ⟨2 * c.val, by have : c.val < 8 := c.isLt; omega⟩ _ _

/-- Device `c`'s flags for its second expert. -/
theorem pay5_apply (c : Dev nD) (e : Vec Ideal S256x1 .i32) (t : Fin 256) :
    k0_pay5 (F := Ideal) c e (ix2 t 0) = if Served e t (2 * c.val + 1) then (1 : EReal) else 0 := by
  pointwise [k0_pay5, k0_pay1]
  rw [word1]
  exact select_served e t ⟨2 * c.val + 1, by have : c.val < 8 := c.isLt; omega⟩ _ _

/-- The product of a device's masked tokens with its two experts' weights. -/
theorem pay6_apply (x m0 : FVec Ideal S256x128 .bf16) (m1 : FVec Ideal S256x1 .f32) (w0 w1 : Vec Ideal S1x128x256 .bf16) (t h : Fin 256) :
    k0_pay6 (F := Ideal) x m0 m1 w0 w1 (ix2 t h)
      = ((∑ k : Fin 128, m0 (ix2 t k) * w0 (ix3 0 k h)) + ∑ k : Fin 128, x (ix2 t k) * m1 (ix2 t 0) * w1 (ix3 0 k h) : EReal) := by
  pointwise [k0_pay6]

/-- Token `t`'s row times expert `a`'s weights, at column `h`, the experts taken from a table of `n`. -/
def rowTimes {n : Nat} (x : Vec Ideal S256x128 .bf16) (w : (⟨3, ![n, 128, 256]⟩ : Shape).Idx → EReal) (t : Fin 256) (a : Fin n) (h : Fin 256) : EReal :=
  ∑ k : Fin 128, x (ix2 t k) * w (ix3 a k h)

/-- The first and the second table of a device's two, as the kernel reads them. -/
theorem read_w0 (w : Vec Ideal S2x128x256 .bf16) (k : Fin 128) (h : Fin 256) :
    wB.view.readAt (Elt Ideal) w0R.toLoadRect w (ix3 0 k h) = w (ix3 0 k h) := by
  refine congrArg w (funext fun a => Fin.ext ?_)
  match a with
  | ⟨0, _⟩ => rfl
  | ⟨1, _⟩ => exact (Nat.zero_add _).trans (Nat.one_mul _)
  | ⟨2, _⟩ => exact (Nat.zero_add _).trans (Nat.one_mul _)

theorem read_w1 (w : Vec Ideal S2x128x256 .bf16) (k : Fin 128) (h : Fin 256) :
    wB.view.readAt (Elt Ideal) w1R.toLoadRect w (ix3 0 k h) = w (ix3 1 k h) := by
  refine congrArg w (funext fun a => Fin.ext ?_)
  match a with
  | ⟨0, _⟩ => rfl
  | ⟨1, _⟩ => exact (Nat.zero_add _).trans (Nat.one_mul _)
  | ⟨2, _⟩ => exact (Nat.zero_add _).trans (Nat.one_mul _)

theorem accVal_apply (m : (ℓ : Loc nD τ sig) → Buf (Elt Ideal) ℓ) (c : Dev nD) (t h : Fin 256) :
    accVal m c (ix2 t h)
      = ((if Served (idxIn m c) t (2 * c.val) then rowTimes (n := 2) (xIn m c) (wIn m c) t 0 h else 0)
        + (if Served (idxIn m c) t (2 * c.val + 1) then rowTimes (n := 2) (xIn m c) (wIn m c) t 1 h else 0) : EReal) := by
  unfold accVal
  refine (pay6_apply _ _ _ _ _ t h).trans ?_
  have h3 : ∀ x : Vec Ideal S256x128 .bf16, k0_pay3 (F := Ideal) x = x := fun x => by unfold k0_pay3; exact shapeCast_self _ _
  rw [h3]
  refine congrArg₂ (fun a b : EReal => a + b) ?_ ?_
  · rw [rowTimes]
    by_cases hs : Served (idxIn m c) t (2 * c.val)
    · rw [if_pos hs]
      exact Finset.sum_congr rfl fun k _ => by rw [pay4_apply, if_pos hs]; exact congrArg _ (read_w0 _ k h)
    · rw [if_neg hs]
      exact Finset.sum_eq_zero fun k _ => by rw [pay4_apply, if_neg hs]; exact zero_mul _
  · rw [rowTimes]
    by_cases hs : Served (idxIn m c) t (2 * c.val + 1)
    · rw [if_pos hs]
      exact Finset.sum_congr rfl fun k _ => by
        rw [pay5_apply, if_pos hs]
        exact (congrArg (fun z : EReal => z * _) (mul_one _)).trans (congrArg _ (read_w1 _ k h))
    · rw [if_neg hs]
      exact Finset.sum_eq_zero fun k _ => by
        rw [pay5_apply, if_neg hs]
        exact (congrArg (fun z : EReal => z * _) (mul_zero _)).trans (zero_mul _)

/-- The tokens, the experts' numbers and the weights a device's kernel reads are its whole arguments. -/
theorem xIn_eq {F : FTy → Type} [FloatOps F] (m : (ℓ : Loc nD τ sig) → Buf (Elt F) ℓ) (c : Dev nD) :
    xIn m c = m ((c : Thread nD τ).loc main_arg0) := by
  funext j
  refine congrArg (m ((c : Thread nD τ).loc main_arg0)) (funext fun a => Fin.ext ?_)
  match a with
  | ⟨0, _⟩ => exact (Nat.zero_add _).trans (Nat.one_mul _)
  | ⟨1, _⟩ => exact (Nat.zero_add _).trans (Nat.one_mul _)

theorem idxIn_eq {F : FTy → Type} [FloatOps F] (m : (ℓ : Loc nD τ sig) → Buf (Elt F) ℓ) (c : Dev nD) :
    idxIn m c = m ((c : Thread nD τ).loc main_arg2) := by
  funext j
  refine congrArg (m ((c : Thread nD τ).loc main_arg2)) (funext fun a => Fin.ext ?_)
  match a with
  | ⟨0, _⟩ => exact (Nat.zero_add _).trans (Nat.one_mul _)
  | ⟨1, _⟩ => exact (Nat.zero_add _).trans (Nat.one_mul _)

theorem wIn_eq {F : FTy → Type} [FloatOps F] (m : (ℓ : Loc nD τ sig) → Buf (Elt F) ℓ) (c : Dev nD) :
    wIn m c = m ((c : Thread nD τ).loc main_arg3) := by
  funext j
  refine congrArg (m ((c : Thread nD τ).loc main_arg3)) (funext fun a => Fin.ext ?_)
  match a with
  | ⟨0, _⟩ => exact (Nat.zero_add _).trans (Nat.one_mul _)
  | ⟨1, _⟩ => exact (Nat.zero_add _).trans (Nat.one_mul _)
  | ⟨2, _⟩ => exact (Nat.zero_add _).trans (Nat.one_mul _)

/-- Row `r` of block `t` of device `s`'s accumulator is its row `32 t + r`. -/
theorem blockVal_apply {F : FTy → Type} [FloatOps F] (m : (ℓ : Loc nD τ sig) → Buf (Elt F) ℓ) (s t : Dev nD) (r : Fin 32) (h : Fin 256) :
    blockVal m s t (ix2 r h) = accVal m s (ix2 (⟨32 * t.val + r.val, by have : t.val < 8 := t.isLt; omega⟩ : Fin 256) h) := by
  refine congrArg (accVal m s) (funext fun a => Fin.ext ?_)
  match a with
  | ⟨0, _⟩ => exact congrArg (32 * t.val + ·) (Nat.one_mul _)
  | ⟨1, _⟩ => exact (Nat.zero_add _).trans (Nat.one_mul _)

/-- Device `c`'s result at an index: the sum over all devices of what each computed for that token. -/
theorem outVal_apply (m : (ℓ : Loc nD τ sig) → Buf (Elt Ideal) ℓ) (c : Dev nD) (j : S32x256.Idx) :
    outVal m c j = (∑ s : Dev nD, (blockVal m s c j : EReal)) := by
  rw [← Finset.add_sum_erase _ _ (Finset.mem_univ c), others_eq c, List.sum_toFinset _ (others_nodup c)]
  show (((((((blockVal m c c j : EReal) + blockVal m (peer c 0) c j) + blockVal m (peer c 1) c j) + blockVal m (peer c 2) c j)
    + blockVal m (peer c 3) c j) + blockVal m (peer c 4) c j) + blockVal m (peer c 5) c j) + blockVal m (peer c 6) c j = _
  simp only [others, List.map_cons, List.map_nil, List.sum_cons, List.sum_nil, add_zero, add_assoc]

end Cert.KernelProof

end
-- ==== Proof.RefValue.lean ====
module

public import proofs.«01_k».proof.Proof.Gen.ReferenceIdeal
public import Idealize.ShloMosaic.Lib.Pointwise
public import Idealize.ShloMosaic.Lib.IdealHost
public import Idealize.ShloMosaic.Lib.IndicatorCount
public import Idealize.ShloMosaic.Lib.WordCmp
public import Idealize.ShloMosaic.Lib.Routing.Ops

/-! # The reference, entry by entry, over the ideal numbers -/

@[expose] public section

set_option maxRecDepth 16384

noncomputable section

namespace Cert.RefProof

open Cert.ReferenceIdeal Cert.ReferenceIdeal.Gen
open Idealize.ShloMosaic Idealize.ShloMosaic.TcCoe

/-- How many earlier tokens chose the same expert. -/
def earlier (f : IVec S256 32) : IVec S256 32 :=
  Host.reduce IntOp.addi (extui 32 (andi (cmpi .eq (broadcastInDim S256x256 ![0, 1] bcast_S256x1_S256x256_0_1 (broadcastInDim S256x1 ![0] bcast_S256_S256x1_0 f)) (broadcastInDim S256x256 ![0, 1] bcast_S1x256_S256x256_0_1 (broadcastInDim S1x256 ![1] bcast_S256_S1x256_1 f))) (cmpi .slt (broadcastInDim S256x256 ![0, 1] bcast_S1x256_S256x256_0_1 (broadcastInDim S1x256 ![1] bcast_S256_S1x256_1 (iotaInDim S256 32 0))) (broadcastInDim S256x256 ![0, 1] bcast_S256x1_S256x256_0_1 (broadcastInDim S256x1 ![0] bcast_S256_S256x1_0 (iotaInDim S256 32 0))))) natLt_1_32) (constantI S_ 32 0#32) reducesTo_S256x256_S256_d1 h_S_

/-- Whether a token is served. -/
def served (f : IVec S256 32) : IVec S256 1 :=
  andi (cmpi .slt (earlier f) (broadcastInDim S256 ![] bcast_S_S256 (constantI S_ 32 12#32)))
    (andi (cmpi .sge f (broadcastInDim S256 ![] bcast_S_S256 (constantI S_ 32 0#32))) (cmpi .slt f (broadcastInDim S256 ![] bcast_S_S256 (constantI S_ 32 16#32))))

/-- The row of the weights a token's index picks, a negative one counted from the end. -/
def picked (f : IVec S256 32) : IVec S256x1 32 :=
  broadcastInDim S256x1 ![0] bcast_S256_S256x1_0 (select (cmpi .slt f (broadcastInDim S256 ![] bcast_S_S256 (constantI S_ 32 0#32))) (addi f (broadcastInDim S256 ![] bcast_S_S256 (constantI S_ 32 16#32))) f)

/-- The reference's result. -/
def refOut (x : FVec Ideal S256x128 .bf16) (e : IVec S256x1 32) (w : FVec Ideal S16x128x256 .bf16) : FVec Ideal S256x256 .f32 :=
  select (broadcastInDim S256x256 ![0, 1] bcast_S256x1_S256x256_0_1 (broadcastInDim S256x1 ![0] bcast_S256_S256x1_0 (served (shapeCast _ e shapeCasts_S256x1_S256))))
    (Host.dotGeneral dot_S256x128_S256x128x256_S256x256_1_1_n_2_0_0 none (extf .f32 x bitsLt_bf16_f32)
      (Host.gather gather_S16x128x256_S256x1_S256x128x256_12_0_n_n_0_1_1128256 (extf .f32 w bitsLt_bf16_f32) (picked (shapeCast _ e shapeCasts_S256x1_S256))))
    (broadcastInDim S256x256 ![] bcast_S_S256x256 (id (constant S_ .f32 0x00000000#32)))

/-- The tokens before `t` with the same expert. -/
def before (f : IVec S256 32) (t : Fin 256) : Finset (Fin 256) := Finset.univ.filter fun k => k < t ∧ f (ix1 k) = f (ix1 t)

/-- The counting word counts them. -/
theorem earlier_apply (f : IVec S256 32) (t : Fin 256) : earlier f (ix1 t) = BitVec.ofNat 32 (before f t).card := by
  pointwise [earlier]
  rw [IndicatorCount.fold_addi_setWidth_eq_card]
  refine congrArg (fun S : Finset (Fin 256) => BitVec.ofNat 32 S.card) ?_
  unfold before
  refine Finset.filter_congr fun k _ => ?_
  rw [WordCmp.cmpi_eq_eq, WordCmp.cmpi_slt_ofNat (by omega) (by omega), WordCmp.andi_ofBool]
  have : (f (ix1 t) = f (ix1 k)) ↔ (f (ix1 k) = f (ix1 t)) := eq_comm
  by_cases h1 : f (ix1 k) = f (ix1 t) <;> by_cases h2 : k < t <;> simp [this, h1, h2]

/-- A token is served if its index names an expert and fewer than twelve earlier tokens chose it. -/
theorem served_apply (f : IVec S256 32) (t : Fin 256) :
    served f (ix1 t) = BitVec.ofBool (decide ((before f t).card < 12) && decide ((f (ix1 t)).toNat < 16)) := by
  pointwise [served]
  rw [WordCmp.andi_sge_zero_slt_ofNat (k := 16) (by omega), earlier_apply, WordCmp.cmpi_slt_ofNat (b := 12) ?_ (by omega), WordCmp.andi_ofBool]
  have : (before f t).card ≤ 256 := (Finset.card_le_univ _).trans (by simp)
  omega

/-- An index that names an expert picks that expert's row. -/
theorem picked_apply (f : IVec S256 32) (t : Fin 256) (a : Fin 16) (ha : f (ix1 t) = BitVec.ofNat 32 a.val) :
    picked f (ix2 t 0) = BitVec.ofNat 32 a.val := by
  pointwise [picked]
  rw [ha, WordCmp.cmpi_slt_ofNat (b := 0) (by omega) (by omega), WordCmp.select_ofBool]
  simp

/-- The gathered tables: where the index word names expert `a`, entry `(t, k, h)` is the table's entry `(a, k, h)`. -/
theorem gather_apply (w : FVec Ideal S16x128x256 .f32) (p : IVec S256x1 32) (t : Fin 256) (k : Fin 128) (h : Fin 256) (a : Fin 16)
    (ha : p (ix2 t 0) = BitVec.ofNat 32 a.val) :
    Host.gather gather_S16x128x256_S256x1_S256x128x256_12_0_n_n_0_1_1128256 w p (ix3 t k h) = w (ix3 a k h) := by
  unfold Host.gather
  refine congrArg w (funext fun b => Fin.ext ?_)
  match b with
  | ⟨0, _⟩ =>
    refine (congrArg (fun v : BitVec 32 => min v.toInt.toNat 15) ((congrArg p ?_).trans ha)).trans ?_
    · funext c
      refine Fin.ext ?_
      match c with
      | ⟨0, _⟩ => rfl
      | ⟨1, _⟩ => rfl
    · have hlt := a.isLt
      show min (BitVec.ofNat 32 a.val).toInt.toNat 15 = a.val
      rw [StableHlo.Predicate.toInt_ofNat_small _ (by omega)]
      omega
  | ⟨1, _⟩ => exact (Nat.zero_add _)
  | ⟨2, _⟩ => exact (Nat.zero_add _)

/-- The column of indices as a row. -/
theorem flat_apply (e : IVec S256x1 32) (k : Fin 256) : shapeCast S256 e shapeCasts_S256x1_S256 (ix1 k) = e (ix2 k 0) := by
  pointwise

/-- The earlier tokens of a column of indices. -/
theorem before_flat (e : IVec S256x1 32) (t : Fin 256) :
    before (shapeCast S256 e shapeCasts_S256x1_S256) t = Finset.univ.filter fun k => k < t ∧ e (ix2 k 0) = e (ix2 t 0) := by
  unfold before
  simp only [flat_apply]

/-- The row of a token whose index names expert `a`: its product with that expert's weights if the expert has room, else zero. -/
theorem refOut_expert (x : FVec Ideal S256x128 .bf16) (e : IVec S256x1 32) (w : FVec Ideal S16x128x256 .bf16) (t h : Fin 256) (a : Fin 16)
    (ha : e (ix2 t 0) = BitVec.ofNat 32 a.val) :
    refOut x e w (ix2 t h)
      = if (Finset.univ.filter fun k => k < t ∧ e (ix2 k 0) = e (ix2 t 0)).card < 12 then (∑ k : Fin 128, x (ix2 t k) * w (ix3 a k h) : EReal) else 0 := by
  pointwise [refOut]
  rw [served_apply, WordCmp.select_ofBool, flat_apply, before_flat, ha]
  have h16 : (BitVec.ofNat 32 a.val).toNat < 16 := by have := a.isLt; simp only [BitVec.toNat_ofNat]; omega
  have hz : id (constant (F := Ideal) S_ .f32 0#32) ix0 = (0 : EReal) := Ideal.ofBits_zero_f32
  rw [decide_eq_true h16, hz]
  simp only [Bool.and_true, decide_eq_true_eq]
  refine if_congr Iff.rfl (Finset.sum_congr rfl fun k _ => congrArg (fun z : EReal => x (ix2 t k) * z) ?_) rfl
  exact gather_apply _ _ t k h a (picked_apply _ t a ((flat_apply e t).trans ha))

/-- The row of a token whose index names no expert is zero. -/
theorem refOut_none (x : FVec Ideal S256x128 .bf16) (e : IVec S256x1 32) (w : FVec Ideal S16x128x256 .bf16) (t h : Fin 256)
    (ha : ¬ (e (ix2 t 0)).toNat < 16) : refOut x e w (ix2 t h) = (0 : EReal) := by
  pointwise [refOut]
  rw [served_apply, WordCmp.select_ofBool, flat_apply, decide_eq_false ha, Bool.and_false, if_neg Bool.false_ne_true]
  exact Ideal.ofBits_zero_f32

end Cert.RefProof

end
-- ==== Proof.Equation.lean ====
module

public import proofs.«01_k».proof.Proof.KernelValue
public import proofs.«01_k».proof.Proof.RefValue
public import proofs.«01_k».proof.Proof.Launch
public import Idealize.ShloMosaic.Lib.Layout
public import Idealize.ShloMosaic.Lib.Pipeline.ValueKit.Geometry

/-! # The sum of the devices' rows is the reference's row -/

@[expose] public section

set_option maxRecDepth 16384

noncomputable section

namespace Cert.KernelProof

open Cert.KernelIdeal Cert.KernelIdeal.Gen
open Idealize.ShloMosaic Idealize.ShloMosaic.TcCoe

/-- The result is written back once, and whole. -/
theorem out_whole : win0_4.WholeAt (⟨0, by decide⟩ : Fin grid0.N) := by decide +kernel

/-- The result array ends at the device's sum of blocks. -/
theorem finalA_out {F : FTy → Type} [FloatOps F] (m : (ℓ : Loc nD τ sig) → Buf (Elt F) ℓ) (ρ : Dev nD → PrngReg) (c : Dev nD) :
    finalA m ρ c (4 : Fin 5) = outVal m c := by
  refine (dats (F := F) m ρ 0 c).arrAt_eq_of_after_last (4 : Fin 5) ⟨0, by decide⟩ out_whole _ fun j => ?_
  rfl

/-- The table of expert `b` of device `s` is the whole table's expert `2 s + b`. -/
theorem block_table (s : Dev nD) (w : Vec Ideal ⟨3, ![16, 128, 256]⟩ .bf16) (b : Fin 2) (k : Fin 128) (h : Fin 256) :
    (Layout.block ⟨3, ![2, 128, 256]⟩ ⟨3, ![16, 128, 256]⟩ 0 8 s w) (ix3 b k h)
      = w (ix3 (⟨2 * s.val + b.val, by have : s.val < 8 := s.isLt; omega⟩ : Fin 16) k h) := by
  refine congrArg w (funext fun a => Fin.ext ?_)
  match a with
  | ⟨0, _⟩ => show s.val * 2 + b.val = _; exact congrArg (· + b.val) (Nat.mul_comm _ _)
  | ⟨1, _⟩ => rfl
  | ⟨2, _⟩ => rfl

/-- Row `r` of device `c`'s share is the whole array's row `32 c + r`. -/
theorem block_rows (c : Dev nD) (v : (⟨2, ![256, 256]⟩ : Shape).Idx → EReal) (r : Fin 32) (h : Fin 256) :
    (Layout.block ⟨2, ![32, 256]⟩ ⟨2, ![256, 256]⟩ 0 8 c v) (ix2 r h)
      = v (ix2 (⟨32 * c.val + r.val, by have : c.val < 8 := c.isLt; omega⟩ : Fin 256) h) := by
  refine congrArg v (funext fun a => Fin.ext ?_)
  match a with
  | ⟨0, _⟩ => show c.val * 32 + r.val = _; exact congrArg (· + r.val) (Nat.mul_comm _ _)
  | ⟨1, _⟩ => rfl

/-- A token finds room exactly when fewer than twelve earlier tokens chose its expert. -/
theorem room_iff (e : Vec Ideal S256x1 .i32) (t : Fin 256) :
    Room e t ↔ (Finset.univ.filter fun k => k < t ∧ e (ix2 k 0) = e (ix2 t 0)).card < 12 := by
  have h : chosen e t = insert t (Finset.univ.filter fun k => k < t ∧ e (ix2 k 0) = e (ix2 t 0)) := by
    ext k
    simp only [chosen, Finset.mem_filter, Finset.mem_univ, true_and, Finset.mem_insert]
    constructor
    · rintro ⟨h1, h2⟩
      rcases h1.eq_or_lt with h | h
      · exact Or.inl h
      · exact Or.inr ⟨h, h2⟩
    · rintro (rfl | ⟨h1, h2⟩)
      · exact ⟨le_refl _, rfl⟩
      · exact ⟨h1.le, h2⟩
  unfold Room
  rw [h, Finset.card_insert_of_notMem (by simp)]
  exact Iff.rfl

/-- The devices' terms for token `t`, summed: the reference's entry. -/
theorem sum_devices (x : Vec Ideal S256x128 .bf16) (e : Vec Ideal S256x1 .i32) (w : Vec Ideal ⟨3, ![16, 128, 256]⟩ .bf16) (t h : Fin 256) :
    (∑ s : Dev nD,
      ((if Served e t (2 * s.val) then rowTimes (n := 2) x (Layout.block ⟨3, ![2, 128, 256]⟩ ⟨3, ![16, 128, 256]⟩ 0 8 s w) t 0 h else 0)
        + (if Served e t (2 * s.val + 1) then rowTimes (n := 2) x (Layout.block ⟨3, ![2, 128, 256]⟩ ⟨3, ![16, 128, 256]⟩ 0 8 s w) t 1 h else 0) : EReal))
      = Cert.RefProof.refOut x e w (ix2 t h) := by
  have hrow : ∀ (s : Dev nD) (b : Fin 2) (a : Fin 16), a.val = 2 * s.val + b.val →
      rowTimes (n := 2) x (Layout.block ⟨3, ![2, 128, 256]⟩ ⟨3, ![16, 128, 256]⟩ 0 8 s w) t b h = rowTimes (n := 16) x w t a h := fun s b a hab => by
    refine Finset.sum_congr rfl fun k _ => congrArg (fun z : EReal => x (ix2 t k) * z) ((block_table s w b k h).trans ?_)
    exact congrArg (fun a : Fin 16 => w (ix3 a k h)) (Fin.ext hab.symm)
  by_cases hin : (e (ix2 t 0)).toNat < 16
  · obtain ⟨a, ha⟩ : ∃ a : Fin 16, e (ix2 t 0) = BitVec.ofNat 32 a.val := ⟨⟨_, hin⟩, (BitVec.ofNat_toNat 32 _ |>.trans (BitVec.setWidth_eq _)).symm⟩
    have hs : ∀ b : Nat, b < 16 → (Served e t b ↔ a.val = b ∧ Room e t) := fun b hb => by
      unfold Served
      rw [ha, expert_word a ⟨b, hb⟩, Fin.ext_iff]
    refine Eq.trans ?_ (Cert.RefProof.refOut_expert x e w t h a ha).symm
    refine Eq.trans ?_ (if_congr (room_iff e t) rfl rfl)
    have hv : a.val < 16 := a.isLt
    refine (Finset.sum_eq_single (⟨a.val / 2, show _ < 8 by omega⟩ : Dev nD) (fun s _ hne => ?_) fun hno => absurd (Finset.mem_univ _) hno).trans ?_
    · have h8 : s.val < 8 := s.isLt
      have hne' : s.val ≠ a.val / 2 := fun h => hne (Fin.ext h)
      rw [if_neg fun h => ?_, if_neg fun h => ?_, add_zero]
      · have := ((hs _ (by omega)).1 h).1; omega
      · have := ((hs _ (by omega)).1 h).1; omega
    · by_cases hr : Room e t
      · rw [if_pos hr]
        rcases Nat.mod_two_eq_zero_or_one a.val with h0 | h1
        · rw [if_pos ((hs _ (by simp only; omega)).2 ⟨by simp only; omega, hr⟩), if_neg fun h => ?_, add_zero]
          · exact hrow _ 0 a (by simp only [Fin.val_zero]; omega)
          · have := ((hs _ (by simp only; omega)).1 h).1; simp only at this; omega
        · rw [if_pos ((hs (2 * (a.val / 2) + 1) (by omega)).2 ⟨by omega, hr⟩), if_neg fun h => ?_, zero_add]
          · exact hrow _ 1 a (by simp only [Fin.val_one]; omega)
          · have := ((hs _ (by simp only; omega)).1 h).1; simp only at this; omega
      · rw [if_neg hr, if_neg fun h => hr h.2, if_neg fun h => hr h.2, add_zero]
  · refine Eq.trans ?_ (Cert.RefProof.refOut_none x e w t h hin).symm
    refine Finset.sum_eq_zero fun s _ => ?_
    have h8 : s.val < 8 := s.isLt
    have hno : ∀ b : Nat, b < 16 → ¬ Served e t b := fun b hb hsv => hin (by rw [hsv.1, BitVec.toNat_ofNat]; omega)
    rw [if_neg (hno _ (by omega)), if_neg (hno _ (by omega)), add_zero]

/-- Device `c`'s result is its share of the reference's, whenever the tokens and indices are the reference's on every device and the
    weights each device's share of the reference's. -/
theorem outVal_eq (m : (ℓ : Loc nD τ sig) → Buf (Elt Ideal) ℓ) (x : Vec Ideal S256x128 .bf16) (e : Vec Ideal S256x1 .i32)
    (w : Vec Ideal ⟨3, ![16, 128, 256]⟩ .bf16) (hx : ∀ c : Dev nD, m ((c : Thread nD τ).loc main_arg0) = x)
    (he : ∀ c : Dev nD, m ((c : Thread nD τ).loc main_arg2) = e)
    (hw : ∀ c : Dev nD, m ((c : Thread nD τ).loc main_arg3) = Layout.block ⟨3, ![2, 128, 256]⟩ ⟨3, ![16, 128, 256]⟩ 0 8 c w) (c : Dev nD) :
    outVal m c = Layout.block ⟨2, ![32, 256]⟩ ⟨2, ![256, 256]⟩ 0 8 c (Cert.RefProof.refOut x e w) := by
  funext j
  rw [eq_ix2 j]
  refine (outVal_apply m c _).trans (Eq.trans ?_ (block_rows c _ (j 0) (j 1)).symm)
  refine Eq.trans (α := EReal) (Finset.sum_congr (M := EReal) rfl fun s _ => ?_) (sum_devices x e w _ _)
  refine (blockVal_apply m s c (j 0) (j 1)).trans ((accVal_apply m s _ _).trans ?_)
  rw [xIn_eq, idxIn_eq, wIn_eq, hx, he, hw]

end Cert.KernelProof

end
-- ==== Proof.lean ====
/-
# The claims

Each program ends, keeps its arguments and returns every semaphore counter to zero. Over the extended reals each device's result is
its share of the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Equation
public import Idealize.ShloMosaic.Adequacy
public import Idealize.ShloMosaic.Init

@[expose] public section

set_option maxRecDepth 16384

noncomputable section

namespace Cert.Proof

open Idealize.ShloMosaic Idealize.SL.Sem

/-- For any float values the kernel ends, keeps its arguments and returns every counter to zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun _ h => ⟨fun c =>
      ⟨(h.1 c (0 : Fin 5)).trans (Cert.KernelProof.finalA_in m ρ c).1, (h.1 c (1 : Fin 5)).trans (Cert.KernelProof.finalA_in m ρ c).2.1,
        (h.1 c (2 : Fin 5)).trans (Cert.KernelProof.finalA_in m ρ c).2.2.1, (h.1 c (3 : Fin 5)).trans (Cert.KernelProof.finalA_in m ρ c).2.2.2⟩, h.2⟩)
    (Cert.KernelProof.run_main (F := F) m ρ)

/-- The two programs' bodies are the same text; -/
theorem bodies_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl
/-- so are their body tables. -/
theorem tables_eq : Cert.Kernel.defs (F := Bits) = Cert.KernelIdeal.defs (F := Bits) := congrArg (Pipeline.defs _) bodies_eq

/-- The kernel on words: its text is the ideal program's, whose run holds for any float values. -/
theorem frame_kernel : Cert.quiescent_Kernel := fun m ρ _ => by
  rw [tables_eq]; exact frame_any (F := Bits) m ρ

/-- The kernel over the extended reals. -/
theorem frame_kernelIdeal : Cert.quiescent_KernelIdeal := fun m ρ _ => frame_any (F := Ideal) m ρ

/-- The reference ends and keeps its arguments; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference ends with its result array at `refOut` of its arguments. -/
theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      ∀ c : Dev Cert.ReferenceIdeal.nD,
        r.2.mem ((c.tc : Thread Cert.ReferenceIdeal.nD Cert.ReferenceIdeal.τ).loc Cert.ReferenceIdeal.main_v34)
          = Cert.RefProof.refOut (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  Cert.ReferenceIdeal.Value.run (F := Ideal) m ρ

/-- Over the extended reals the kernel's result, share by share, is the reference's. -/
theorem algebraic : Cert.algebraic_KernelIdeal_ReferenceIdeal := fun m g m' g' _ heq =>
  ⟨_, (θ_run Cert.KernelIdeal.defs _ _).mono (fun _ h c =>
      ⟨((h.1 c (4 : Fin 5)).trans (Cert.KernelProof.finalA_out m g c)).trans
          (Cert.KernelProof.outVal_eq m _ _ _ (fun c => (heq c).1) (fun c => (heq c).2.2.1) (fun c => (heq c).2.2.2) c),
        (h.1 c (0 : Fin 5)).trans (Cert.KernelProof.finalA_in m g c).1, (h.1 c (1 : Fin 5)).trans (Cert.KernelProof.finalA_in m g c).2.1,
        (h.1 c (2 : Fin 5)).trans (Cert.KernelProof.finalA_in m g c).2.2.1, (h.1 c (3 : Fin 5)).trans (Cert.KernelProof.finalA_in m g c).2.2.2⟩)
      (Cert.KernelProof.run_main (F := Ideal) m g),
    (θ_run Cert.ReferenceIdeal.defs _ _).mono (fun _ h => h 0) (run_reference m' g')⟩

/-- The claims together. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
